-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S8x4x512x256 : Shape := ⟨4, ![8, 4, 512, 256]⟩
abbrev S8x1x128 : Shape := ⟨3, ![8, 1, 128]⟩
abbrev S7x4 : Shape := ⟨2, ![7, 4]⟩
abbrev S7 : Shape := ⟨1, ![7]⟩
abbrev S_ : Shape := ⟨0, ![]⟩
abbrev S512x512 : Shape := ⟨2, ![512, 512]⟩
abbrev S512x256 : Shape := ⟨2, ![512, 256]⟩
abbrev S1x1x512x256 : Shape := ⟨4, ![1, 1, 512, 256]⟩
abbrev S1x1 : Shape := ⟨2, ![1, 1]⟩
abbrev S1x512x256 : Shape := ⟨3, ![1, 512, 256]⟩
abbrev S1 : Shape := ⟨1, ![1]⟩
abbrev S1x1x1 : Shape := ⟨3, ![1, 1, 1]⟩
abbrev S1x128 : Shape := ⟨2, ![1, 128]⟩
abbrev S1x1x128 : Shape := ⟨3, ![1, 1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S512x2048, .f32⟩
  | .local _ .vmem, ⟨3, _⟩ => ⟨S8x4x512x256, .f32⟩
  | .local _ .vmem, ⟨4, _⟩ => ⟨S8x4x512x256, .f32⟩
  | .local _ .vmem, ⟨5, _⟩ => ⟨S8x1x128, .f32⟩
  | _, _ => ⟨S4096x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 129 → Bool
  | ⟨i, _⟩ => dmaSemScopedAt i

abbrev sig : RefSig :=
  (ofTc nBuf bufTy 1 129 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.addi v2 c8_i32_10
  let c1_i32_11 : BitVec 32 := 1#32
  let v14 : BitVec 32 := Scalar.subi v13 c1_i32_11
  let c8_i32_12 : BitVec 32 := 8#32
  let v15 : BitVec 32 := Scalar.remsi v14 c8_i32_12
  let c512_i32 : BitVec 32 := 512#32
  let v18 : BitVec 32 := Scalar.muli v15 c512_i32
  let v19 : Index := Scalar.indexCast v18
  let c0 : Index := 0#32
  ![v19.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_27 : BitVec 32 := 1#32
  let v28 : BitVec 32 := Scalar.muli v7 c1_i32_27
  let v29 : BitVec 32 := Scalar.addi c0_i32_28 v28
  v29.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v16 : BitVec 32 := Scalar.addi v2 c1_i32_13
  let c8_i32_14 : BitVec 32 := 8#32
  let v17 : BitVec 32 := Scalar.remsi v16 c8_i32_14
  let c512_i32_33 : BitVec 32 := 512#32
  let v38 : BitVec 32 := Scalar.muli v17 c512_i32_33
  let v39 : Index := Scalar.indexCast v38
  let c0_34 : Index := 0#32
  ![v39.toNat, 0]
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_49 : BitVec 32 := 1#32
  let v48 : BitVec 32 := Scalar.muli v5 c1_i32_49
  let v49 : BitVec 32 := Scalar.addi c0_i32_50 v48
  v49.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_70 : BitVec 32 := 1#32
  let v68 : BitVec 32 := Scalar.muli v7 c1_i32_70
  let v69 : BitVec 32 := Scalar.addi c0_i32_71 v68
  v69.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_92 : BitVec 32 := 1#32
  let v88 : BitVec 32 := Scalar.muli v5 c1_i32_92
  let v89 : BitVec 32 := Scalar.addi c0_i32_93 v88
  v89.toNat
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_113 : BitVec 32 := 1#32
  let v108 : BitVec 32 := Scalar.muli v7 c1_i32_113
  let v109 : BitVec 32 := Scalar.addi c0_i32_114 v108
  v109.toNat
def k0_dev8 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_135 : BitVec 32 := 1#32
  let v128 : BitVec 32 := Scalar.muli v5 c1_i32_135
  let v129 : BitVec 32 := Scalar.addi c0_i32_136 v128
  v129.toNat
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_155 : BitVec 32 := 1#32
  let v148 : BitVec 32 := Scalar.muli v7 c1_i32_155
  let v149 : BitVec 32 := Scalar.addi c0_i32_156 v148
  v149.toNat
def k0_dev10 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_177 : BitVec 32 := 1#32
  let v168 : BitVec 32 := Scalar.muli v5 c1_i32_177
  let v169 : BitVec 32 := Scalar.addi c0_i32_178 v168
  v169.toNat
def k0_off3 (d0 : Dev nD) (c1_i32_185 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_183 : BitVec 32 := 8#32
  let v178 : BitVec 32 := Scalar.addi v2 c8_i32_183
  let c1_i32_184 : BitVec 32 := 1#32
  let v179 : BitVec 32 := Scalar.subi v178 c1_i32_184
  let v180 : BitVec 32 := Scalar.subi v179 c1_i32_185
  let c8_i32_186 : BitVec 32 := 8#32
  let v181 : BitVec 32 := Scalar.remsi v180 c8_i32_186
  let c512_i32_208 : BitVec 32 := 512#32
  let v195 : BitVec 32 := Scalar.muli v181 c512_i32_208
  let v196 : Index := Scalar.indexCast v195
  let c0_209 : Index := 0#32
  ![v196.toNat, 0]
def k0_dev11 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_225 : BitVec 32 := 1#32
  let v206 : BitVec 32 := Scalar.muli v7 c1_i32_225
  let v207 : BitVec 32 := Scalar.addi c0_i32_226 v206
  v207.toNat
def k0_off4 (d0 : Dev nD) (c1_i32_188 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_187 : BitVec 32 := 1#32
  let v182 : BitVec 32 := Scalar.addi v2 c1_i32_187
  let v183 : BitVec 32 := Scalar.addi v182 c1_i32_188
  let c8_i32_189 : BitVec 32 := 8#32
  let v184 : BitVec 32 := Scalar.remsi v183 c8_i32_189
  let c512_i32_249 : BitVec 32 := 512#32
  let v226 : BitVec 32 := Scalar.muli v184 c512_i32_249
  let v227 : Index := Scalar.indexCast v226
  let c0_250 : Index := 0#32
  ![v227.toNat, 0]
def k0_dev12 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_266 : BitVec 32 := 1#32
  let v237 : BitVec 32 := Scalar.muli v5 c1_i32_266
  let v238 : BitVec 32 := Scalar.addi c0_i32_267 v237
  v238.toNat
def k0_dev13 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_307 : BitVec 32 := 1#32
  let v268 : BitVec 32 := Scalar.muli v7 c1_i32_307
  let v269 : BitVec 32 := Scalar.addi c0_i32_308 v268
  v269.toNat
def k0_dev14 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_348 : BitVec 32 := 1#32
  let v299 : BitVec 32 := Scalar.muli v5 c1_i32_348
  let v300 : BitVec 32 := Scalar.addi c0_i32_349 v299
  v300.toNat
def k0_dev15 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_389 : BitVec 32 := 1#32
  let v330 : BitVec 32 := Scalar.muli v7 c1_i32_389
  let v331 : BitVec 32 := Scalar.addi c0_i32_390 v330
  v331.toNat
def k0_dev16 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_430 : BitVec 32 := 1#32
  let v361 : BitVec 32 := Scalar.muli v5 c1_i32_430
  let v362 : BitVec 32 := Scalar.addi c0_i32_431 v361
  v362.toNat
def k0_dev17 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_471 : BitVec 32 := 1#32
  let v392 : BitVec 32 := Scalar.muli v7 c1_i32_471
  let v393 : BitVec 32 := Scalar.addi c0_i32_472 v392
  v393.toNat
def k0_dev18 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_512 : BitVec 32 := 1#32
  let v423 : BitVec 32 := Scalar.muli v5 c1_i32_512
  let v424 : BitVec 32 := Scalar.addi c0_i32_513 v423
  v424.toNat
def k0_dev19 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_560 : BitVec 32 := 1#32
  let v461 : BitVec 32 := Scalar.muli v7 c1_i32_560
  let v462 : BitVec 32 := Scalar.addi c0_i32_561 v461
  v462.toNat
def k0_dev20 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_601 : BitVec 32 := 1#32
  let v492 : BitVec 32 := Scalar.muli v5 c1_i32_601
  let v493 : BitVec 32 := Scalar.addi c0_i32_602 v492
  v493.toNat
def k0_dev21 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_642 : BitVec 32 := 1#32
  let v523 : BitVec 32 := Scalar.muli v7 c1_i32_642
  let v524 : BitVec 32 := Scalar.addi c0_i32_643 v523
  v524.toNat
def k0_dev22 (d0 : Dev nD) : Nat :=
  let c0_i32_684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_683 : BitVec 32 := 1#32
  let v554 : BitVec 32 := Scalar.muli v5 c1_i32_683
  let v555 : BitVec 32 := Scalar.addi c0_i32_684 v554
  v555.toNat
def k0_dev23 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_724 : BitVec 32 := 1#32
  let v585 : BitVec 32 := Scalar.muli v7 c1_i32_724
  let v586 : BitVec 32 := Scalar.addi c0_i32_725 v585
  v586.toNat
def k0_dev24 (d0 : Dev nD) : Nat :=
  let c0_i32_766 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_765 : BitVec 32 := 1#32
  let v616 : BitVec 32 := Scalar.muli v5 c1_i32_765
  let v617 : BitVec 32 := Scalar.addi c0_i32_766 v616
  v617.toNat
def k0_dev25 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_806 : BitVec 32 := 1#32
  let v647 : BitVec 32 := Scalar.muli v7 c1_i32_806
  let v648 : BitVec 32 := Scalar.addi c0_i32_807 v647
  v648.toNat
def k0_dev26 (d0 : Dev nD) : Nat :=
  let c0_i32_848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_847 : BitVec 32 := 1#32
  let v678 : BitVec 32 := Scalar.muli v5 c1_i32_847
  let v679 : BitVec 32 := Scalar.addi c0_i32_848 v678
  v679.toNat
def k0_dev27 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_895 : BitVec 32 := 1#32
  let v716 : BitVec 32 := Scalar.muli v7 c1_i32_895
  let v717 : BitVec 32 := Scalar.addi c0_i32_896 v716
  v717.toNat
def k0_dev28 (d0 : Dev nD) : Nat :=
  let c0_i32_937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_936 : BitVec 32 := 1#32
  let v747 : BitVec 32 := Scalar.muli v5 c1_i32_936
  let v748 : BitVec 32 := Scalar.addi c0_i32_937 v747
  v748.toNat
def k0_dev29 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_977 : BitVec 32 := 1#32
  let v778 : BitVec 32 := Scalar.muli v7 c1_i32_977
  let v779 : BitVec 32 := Scalar.addi c0_i32_978 v778
  v779.toNat
def k0_dev30 (d0 : Dev nD) : Nat :=
  let c0_i32_1019 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1018 : BitVec 32 := 1#32
  let v809 : BitVec 32 := Scalar.muli v5 c1_i32_1018
  let v810 : BitVec 32 := Scalar.addi c0_i32_1019 v809
  v810.toNat
def k0_dev31 (d0 : Dev nD) : Nat :=
  let c0_i32_1060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1059 : BitVec 32 := 1#32
  let v840 : BitVec 32 := Scalar.muli v7 c1_i32_1059
  let v841 : BitVec 32 := Scalar.addi c0_i32_1060 v840
  v841.toNat
def k0_dev32 (d0 : Dev nD) : Nat :=
  let c0_i32_1101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1100 : BitVec 32 := 1#32
  let v871 : BitVec 32 := Scalar.muli v5 c1_i32_1100
  let v872 : BitVec 32 := Scalar.addi c0_i32_1101 v871
  v872.toNat
def k0_dev33 (d0 : Dev nD) : Nat :=
  let c0_i32_1142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1141 : BitVec 32 := 1#32
  let v902 : BitVec 32 := Scalar.muli v7 c1_i32_1141
  let v903 : BitVec 32 := Scalar.addi c0_i32_1142 v902
  v903.toNat
def k0_dev34 (d0 : Dev nD) : Nat :=
  let c0_i32_1183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1182 : BitVec 32 := 1#32
  let v933 : BitVec 32 := Scalar.muli v5 c1_i32_1182
  let v934 : BitVec 32 := Scalar.addi c0_i32_1183 v933
  v934.toNat
def k0_dev35 (d0 : Dev nD) : Nat :=
  let c0_i32_1230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1229 : BitVec 32 := 1#32
  let v971 : BitVec 32 := Scalar.muli v7 c1_i32_1229
  let v972 : BitVec 32 := Scalar.addi c0_i32_1230 v971
  v972.toNat
def k0_dev36 (d0 : Dev nD) : Nat :=
  let c0_i32_1271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1270 : BitVec 32 := 1#32
  let v1002 : BitVec 32 := Scalar.muli v5 c1_i32_1270
  let v1003 : BitVec 32 := Scalar.addi c0_i32_1271 v1002
  v1003.toNat
def k0_dev37 (d0 : Dev nD) : Nat :=
  let c0_i32_1312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1311 : BitVec 32 := 1#32
  let v1033 : BitVec 32 := Scalar.muli v7 c1_i32_1311
  let v1034 : BitVec 32 := Scalar.addi c0_i32_1312 v1033
  v1034.toNat
def k0_dev38 (d0 : Dev nD) : Nat :=
  let c0_i32_1353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1352 : BitVec 32 := 1#32
  let v1064 : BitVec 32 := Scalar.muli v5 c1_i32_1352
  let v1065 : BitVec 32 := Scalar.addi c0_i32_1353 v1064
  v1065.toNat
def k0_dev39 (d0 : Dev nD) : Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1393 : BitVec 32 := 1#32
  let v1095 : BitVec 32 := Scalar.muli v7 c1_i32_1393
  let v1096 : BitVec 32 := Scalar.addi c0_i32_1394 v1095
  v1096.toNat
def k0_dev40 (d0 : Dev nD) : Nat :=
  let c0_i32_1435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1434 : BitVec 32 := 1#32
  let v1126 : BitVec 32 := Scalar.muli v5 c1_i32_1434
  let v1127 : BitVec 32 := Scalar.addi c0_i32_1435 v1126
  v1127.toNat
def k0_dev41 (d0 : Dev nD) : Nat :=
  let c0_i32_1476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1475 : BitVec 32 := 1#32
  let v1157 : BitVec 32 := Scalar.muli v7 c1_i32_1475
  let v1158 : BitVec 32 := Scalar.addi c0_i32_1476 v1157
  v1158.toNat
def k0_dev42 (d0 : Dev nD) : Nat :=
  let c0_i32_1517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1516 : BitVec 32 := 1#32
  let v1188 : BitVec 32 := Scalar.muli v5 c1_i32_1516
  let v1189 : BitVec 32 := Scalar.addi c0_i32_1517 v1188
  v1189.toNat
def k0_dev43 (d0 : Dev nD) : Nat :=
  let c0_i32_1563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1562 : BitVec 32 := 1#32
  let v1226 : BitVec 32 := Scalar.muli v7 c1_i32_1562
  let v1227 : BitVec 32 := Scalar.addi c0_i32_1563 v1226
  v1227.toNat
def k0_dev44 (d0 : Dev nD) : Nat :=
  let c0_i32_1604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1603 : BitVec 32 := 1#32
  let v1257 : BitVec 32 := Scalar.muli v5 c1_i32_1603
  let v1258 : BitVec 32 := Scalar.addi c0_i32_1604 v1257
  v1258.toNat
def k0_dev45 (d0 : Dev nD) : Nat :=
  let c0_i32_1645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1644 : BitVec 32 := 1#32
  let v1288 : BitVec 32 := Scalar.muli v7 c1_i32_1644
  let v1289 : BitVec 32 := Scalar.addi c0_i32_1645 v1288
  v1289.toNat
def k0_dev46 (d0 : Dev nD) : Nat :=
  let c0_i32_1686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1685 : BitVec 32 := 1#32
  let v1319 : BitVec 32 := Scalar.muli v5 c1_i32_1685
  let v1320 : BitVec 32 := Scalar.addi c0_i32_1686 v1319
  v1320.toNat
def k0_dev47 (d0 : Dev nD) : Nat :=
  let c0_i32_1727 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1726 : BitVec 32 := 1#32
  let v1350 : BitVec 32 := Scalar.muli v7 c1_i32_1726
  let v1351 : BitVec 32 := Scalar.addi c0_i32_1727 v1350
  v1351.toNat
def k0_dev48 (d0 : Dev nD) : Nat :=
  let c0_i32_1768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1767 : BitVec 32 := 1#32
  let v1381 : BitVec 32 := Scalar.muli v5 c1_i32_1767
  let v1382 : BitVec 32 := Scalar.addi c0_i32_1768 v1381
  v1382.toNat
def k0_dev49 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1808 : BitVec 32 := 1#32
  let v1412 : BitVec 32 := Scalar.muli v7 c1_i32_1808
  let v1413 : BitVec 32 := Scalar.addi c0_i32_1809 v1412
  v1413.toNat
def k0_dev50 (d0 : Dev nD) : Nat :=
  let c0_i32_1850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1849 : BitVec 32 := 1#32
  let v1443 : BitVec 32 := Scalar.muli v5 c1_i32_1849
  let v1444 : BitVec 32 := Scalar.addi c0_i32_1850 v1443
  v1444.toNat
def k0_dev51 (d0 : Dev nD) : Nat :=
  let c0_i32_1896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1895 : BitVec 32 := 1#32
  let v1481 : BitVec 32 := Scalar.muli v7 c1_i32_1895
  let v1482 : BitVec 32 := Scalar.addi c0_i32_1896 v1481
  v1482.toNat
def k0_dev52 (d0 : Dev nD) : Nat :=
  let c0_i32_1937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1936 : BitVec 32 := 1#32
  let v1512 : BitVec 32 := Scalar.muli v5 c1_i32_1936
  let v1513 : BitVec 32 := Scalar.addi c0_i32_1937 v1512
  v1513.toNat
def k0_dev53 (d0 : Dev nD) : Nat :=
  let c0_i32_1978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1977 : BitVec 32 := 1#32
  let v1543 : BitVec 32 := Scalar.muli v7 c1_i32_1977
  let v1544 : BitVec 32 := Scalar.addi c0_i32_1978 v1543
  v1544.toNat
def k0_dev54 (d0 : Dev nD) : Nat :=
  let c0_i32_2019 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2018 : BitVec 32 := 1#32
  let v1574 : BitVec 32 := Scalar.muli v5 c1_i32_2018
  let v1575 : BitVec 32 := Scalar.addi c0_i32_2019 v1574
  v1575.toNat
def k0_dev55 (d0 : Dev nD) : Nat :=
  let c0_i32_2060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2059 : BitVec 32 := 1#32
  let v1605 : BitVec 32 := Scalar.muli v7 c1_i32_2059
  let v1606 : BitVec 32 := Scalar.addi c0_i32_2060 v1605
  v1606.toNat
def k0_dev56 (d0 : Dev nD) : Nat :=
  let c0_i32_2101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2100 : BitVec 32 := 1#32
  let v1636 : BitVec 32 := Scalar.muli v5 c1_i32_2100
  let v1637 : BitVec 32 := Scalar.addi c0_i32_2101 v1636
  v1637.toNat
def k0_dev57 (d0 : Dev nD) : Nat :=
  let c0_i32_2142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2141 : BitVec 32 := 1#32
  let v1667 : BitVec 32 := Scalar.muli v7 c1_i32_2141
  let v1668 : BitVec 32 := Scalar.addi c0_i32_2142 v1667
  v1668.toNat
def k0_dev58 (d0 : Dev nD) : Nat :=
  let c0_i32_2183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2182 : BitVec 32 := 1#32
  let v1698 : BitVec 32 := Scalar.muli v5 c1_i32_2182
  let v1699 : BitVec 32 := Scalar.addi c0_i32_2183 v1698
  v1699.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_2205 : BitVec 32 := 512#32
  let v1718 : BitVec 32 := Scalar.muli v2 c512_i32_2205
  let v1719 : Index := Scalar.indexCast v1718
  let c0_2206 : Index := 0#32
  ![v1719.toNat, 0]
def k0_dev59 (d0 : Dev nD) : Nat :=
  let c0_i32_2414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2407 : BitVec 32 := 1#32
  let v1920 : BitVec 32 := Scalar.addi v2 c1_i32_2407
  let c8_i32_2408 : BitVec 32 := 8#32
  let v1921 : BitVec 32 := Scalar.remsi v1920 c8_i32_2408
  let c1_i32_2413 : BitVec 32 := 1#32
  let v1922 : BitVec 32 := Scalar.muli v1921 c1_i32_2413
  let v1923 : BitVec 32 := Scalar.addi c0_i32_2414 v1922
  v1923.toNat
def k0_dev60 (d0 : Dev nD) : Nat :=
  let c0_i32_2426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2419 : BitVec 32 := 2#32
  let v1932 : BitVec 32 := Scalar.addi v2 c2_i32_2419
  let c8_i32_2420 : BitVec 32 := 8#32
  let v1933 : BitVec 32 := Scalar.remsi v1932 c8_i32_2420
  let c1_i32_2425 : BitVec 32 := 1#32
  let v1934 : BitVec 32 := Scalar.muli v1933 c1_i32_2425
  let v1935 : BitVec 32 := Scalar.addi c0_i32_2426 v1934
  v1935.toNat
def k0_dev61 (d0 : Dev nD) : Nat :=
  let c0_i32_2438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2431 : BitVec 32 := 3#32
  let v1944 : BitVec 32 := Scalar.addi v2 c3_i32_2431
  let c8_i32_2432 : BitVec 32 := 8#32
  let v1945 : BitVec 32 := Scalar.remsi v1944 c8_i32_2432
  let c1_i32_2437 : BitVec 32 := 1#32
  let v1946 : BitVec 32 := Scalar.muli v1945 c1_i32_2437
  let v1947 : BitVec 32 := Scalar.addi c0_i32_2438 v1946
  v1947.toNat
def k0_dev62 (d0 : Dev nD) : Nat :=
  let c0_i32_2450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2443 : BitVec 32 := 4#32
  let v1956 : BitVec 32 := Scalar.addi v2 c4_i32_2443
  let c8_i32_2444 : BitVec 32 := 8#32
  let v1957 : BitVec 32 := Scalar.remsi v1956 c8_i32_2444
  let c1_i32_2449 : BitVec 32 := 1#32
  let v1958 : BitVec 32 := Scalar.muli v1957 c1_i32_2449
  let v1959 : BitVec 32 := Scalar.addi c0_i32_2450 v1958
  v1959.toNat
def k0_dev63 (d0 : Dev nD) : Nat :=
  let c0_i32_2462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2455 : BitVec 32 := 5#32
  let v1968 : BitVec 32 := Scalar.addi v2 c5_i32_2455
  let c8_i32_2456 : BitVec 32 := 8#32
  let v1969 : BitVec 32 := Scalar.remsi v1968 c8_i32_2456
  let c1_i32_2461 : BitVec 32 := 1#32
  let v1970 : BitVec 32 := Scalar.muli v1969 c1_i32_2461
  let v1971 : BitVec 32 := Scalar.addi c0_i32_2462 v1970
  v1971.toNat
def k0_dev64 (d0 : Dev nD) : Nat :=
  let c0_i32_2474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2467 : BitVec 32 := 6#32
  let v1980 : BitVec 32 := Scalar.addi v2 c6_i32_2467
  let c8_i32_2468 : BitVec 32 := 8#32
  let v1981 : BitVec 32 := Scalar.remsi v1980 c8_i32_2468
  let c1_i32_2473 : BitVec 32 := 1#32
  let v1982 : BitVec 32 := Scalar.muli v1981 c1_i32_2473
  let v1983 : BitVec 32 := Scalar.addi c0_i32_2474 v1982
  v1983.toNat
def k0_dev65 (d0 : Dev nD) : Nat :=
  let c0_i32_2486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2479 : BitVec 32 := 7#32
  let v1992 : BitVec 32 := Scalar.addi v2 c7_i32_2479
  let c8_i32_2480 : BitVec 32 := 8#32
  let v1993 : BitVec 32 := Scalar.remsi v1992 c8_i32_2480
  let c1_i32_2485 : BitVec 32 := 1#32
  let v1994 : BitVec 32 := Scalar.muli v1993 c1_i32_2485
  let v1995 : BitVec 32 := Scalar.addi c0_i32_2486 v1994
  v1995.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Prog.lean ====
/-
# The kernel's body as a short program of steps

Every hop of the two rings is the same handful of instructions at different indices. Each kind of step is written
once, continued by a program `k`.
-/
module

public import proofs.«01_k».proof.Proof.Gen.KernelIdeal
public import proofs.«01_k».proof.Proof.Gen.KernelIdeal.Skeleton

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-- The programs of one core. -/
abbrev P (F : FTy → Type) [FloatOps F] : Type 1 := Prog (TpuEff nD τ sig (Elt F) Λ₀ .tc) PUnit

/-! ## Memrefs and semaphores -/

abbrev xM : Memref sig .tc .vmem S4096x512 .f32 := Memref.whole cc0_stg0_0
abbrev wM : Memref sig .tc .vmem S512x2048 .f32 := Memref.whole cc0_stg1_0
abbrev oM : Memref sig .tc .vmem S512x2048 .f32 := Memref.whole cc0_stg2_0
abbrev aM : Memref sig .tc .vmem S8x1x128 .f32 := Memref.whole cc0_scratch2

/-- The scratch buffer of a direction: `true` the one sent rightwards. -/
def ringM : Bool → Memref sig .tc .vmem S8x4x512x256 .f32
  | true => Memref.whole cc0_scratch0
  | false => Memref.whole cc0_scratch1

/-- The send semaphores of a direction. -/
def sndA : Bool → DmaSems sig S7x4
  | true => cc0_scratch3
  | false => cc0_scratch5
/-- The receive semaphores of a direction. -/
def rcvA : Bool → DmaSems sig S7x4
  | true => cc0_scratch4
  | false => cc0_scratch6

theorem inb_slot (s : Fin 8) (ch : Fin 4) : ∀ a, (![s.val, ch.val, 0, 0] : Fin 4 → Nat) a + S1x1x512x256.size a ≤ S8x4x512x256.size a := by
  revert s ch; decide
theorem inb_sem (s : Fin 7) (ch : Fin 4) : ∀ a, (![s.val, ch.val] : Fin 2 → Nat) a + S1x1.size a ≤ S7x4.size a := by
  revert s ch; decide
theorem inb_am (s : Fin 8) : ∀ a, (![s.val, 0, 0] : Fin 3 → Nat) a + S1x1x128.size a ≤ S8x1x128.size a := by
  revert s; decide
theorem inb_amsem (s : Fin 7) : ∀ a, (![s.val] : Fin 1 → Nat) a + S1.size a ≤ S7.size a := by
  revert s; decide

/-- The first column of a chunk. -/
def col (dir : Bool) (ch : Fin 4) : ℕ := match dir with
  | true => 256 * ch.val
  | false => 1024 + 256 * ch.val
theorem inb_col (dir : Bool) (ch : Fin 4) : ∀ a, (![0, col dir ch] : Fin 2 → Nat) a + S512x256.size a ≤ S512x2048.size a := by
  revert dir ch; decide

/-- The rectangle of a slot in a ring buffer. -/
abbrev slotR (s : Fin 8) (ch : Fin 4) : Rect S8x4x512x256 :=
  Rect.unit (s := S8x4x512x256) ![s.val, ch.val, 0, 0] S1x1x512x256.size (inb_slot s ch)
/-- A slot of a ring buffer, as the transfers name it. -/
abbrev slotM (dir : Bool) (s : Fin 8) (ch : Fin 4) : Memref sig .tc .vmem S512x256 .f32 :=
  ((ringM dir).slice (slotR s ch) (fun _ => rfl)).squeeze S512x256 squeezes_S1x1x512x256_S512x256
abbrev colR (dir : Bool) (ch : Fin 4) : Rect S512x2048 :=
  Rect.unit (s := S512x2048) ![0, col dir ch] S512x256.size (inb_col dir ch)
abbrev rowR (off : Fin 2 → ℕ) (h : ∀ a, off a + S512x512.size a ≤ S4096x512.size a) : Rect S4096x512 :=
  Rect.unit (s := S4096x512) off S512x512.size h
abbrev amR (s : Fin 8) : Rect S8x1x128 := Rect.unit (s := S8x1x128) ![s.val, 0, 0] S1x1x128.size (inb_am s)
abbrev amM (s : Fin 8) : Memref sig .tc .vmem S1x128 .f32 := (aM.slice (amR s) (fun _ => rfl)).squeeze S1x128 squeezes_S1x1x128_S1x128

abbrev snd (dir : Bool) (s : Fin 7) (ch : Fin 4) : DmaSem sig :=
  (((sndA dir).slice (Rect.unit (s := S7x4) ![s.val, ch.val] S1x1.size (inb_sem s ch))).squeeze S_ squeezes_S1x1_S_).sem
abbrev rcv (dir : Bool) (s : Fin 7) (ch : Fin 4) : DmaSem sig :=
  (((rcvA dir).slice (Rect.unit (s := S7x4) ![s.val, ch.val] S1x1.size (inb_sem s ch))).squeeze S_ squeezes_S1x1_S_).sem
abbrev asnd (o : Fin 7) : DmaSem sig :=
  ((cc0_scratch7.slice (Rect.unit (s := S7) ![o.val] S1.size (inb_amsem o))).squeeze S_ squeezes_S1_S_).sem
abbrev arcv (o : Fin 7) : DmaSem sig :=
  ((cc0_scratch8.slice (Rect.unit (s := S7) ![o.val] S1.size (inb_amsem o))).squeeze S_ squeezes_S1_S_).sem

/-- The slot a hop sends from: the local slot 7 first, afterwards the slot the hop before it landed in. -/
def srcS (s : Fin 7) : Fin 8 := match s with
  | 0 => 7
  | 1 => 0
  | 2 => 1
  | 3 => 2
  | 4 => 3
  | 5 => 4
  | 6 => 5

theorem notSc (dir : Bool) (s : Fin 8) (ch : Fin 4) : (slotM dir s ch).view.ref.isScScratch = false := by cases dir <;> rfl

/-! ## Values -/

/-- The product a chunk starts from. -/
abbrev start0 (x : Vec F S512x512 .f32) (w : Vec F S512x256 .f32) : FVec F S1x1x512x256 .f32 := k0_pay3 x w
/-- A landed sum with this device's product added. -/
abbrev addP (a : Vec F S1x1x512x256 .f32) (x : Vec F S512x512 .f32) (w : Vec F S512x256 .f32) : FVec F S1x1x512x256 .f32 := k0_pay11 a x w
/-- The last addition, clipped below at zero. -/
abbrev lastP (a : Vec F S1x1x512x256 .f32) (x : Vec F S512x512 .f32) (w : Vec F S512x256 .f32) : FVec F S512x256 .f32 := k0_pay87 a x w
/-- The running largest value. -/
abbrev maxP (l : F .f32) (a : Vec F S1x1x512x256 .f32) (x : Vec F S512x512 .f32) (w : Vec F S512x256 .f32) : F .f32 := k0_pay88 l a x w

/-! ## Steps -/

abbrev zero0 : F .f32 := Scalar.ofBits .f32 0x00000000#32

/-- The transfer of a hop. -/
def sendStep (dir : Bool) (s : Fin 7) (ch : Fin 4) (dst : Dev nD) (k : P F) : P F :=
  .op (.enqueueDma (slotM dir (srcS s) ch) (.remote (Dev.tc dst) (slotM dir s.castSucc ch) (.dma (snd dir s ch)) (notSc _ _ _)) (.dma (rcv dir s ch))
    ((View.wordExact_bits rfl).reshape _ _) ((View.wordExact_bits rfl).reshape _ _) ⟨⟨rfl, Or.inl rfl⟩, trivial⟩) fun _ => k

/-- The first product of a chunk, stored in slot 7. -/
def initStep (dir : Bool) (ch : Fin 4) (off : Fin 2 → ℕ) (h : ∀ a, off a + S512x512.size a ≤ S4096x512.size a) (k : P F) : P F :=
  .op (.load xM (rowR off h).toLoadRect (View.loadsAt_vmem h_S512x512)) fun x =>
  .op (.load wM (colR dir ch).toLoadRect (View.loadsAt_vmem h_S512x256)) fun w =>
  .op (.load (ringM dir) (slotR 7 ch).toLoadRect (View.loadsAt_vmem h_S1x1x512x256)) fun _ =>
  .op (.store (ringM dir) (slotR 7 ch) (start0 x w) Finset.univ (View.stores_vmem_bits_univ h_S1x1x512x256 rfl) (.inl rfl)) fun _ => k

/-- The wait for a landing. -/
def waitStep (dir : Bool) (s : Fin 7) (ch : Fin 4) (k : P F) : P F :=
  .op (.waitDma2 (rcv dir s ch) (slotM dir (srcS s) ch) (slotM dir s.castSucc ch)
    ((View.wordExact_bits rfl).reshape _ _) ((View.wordExact_bits rfl).reshape _ _)) fun _ => k

/-- The addition to a landed sum, in place. -/
def addStep (dir : Bool) (s : Fin 7) (ch : Fin 4) (off : Fin 2 → ℕ) (h : ∀ a, off a + S512x512.size a ≤ S4096x512.size a) (k : P F) : P F :=
  .op (.load (ringM dir) (slotR s.castSucc ch).toLoadRect (View.loadsAt_vmem h_S1x1x512x256)) fun a =>
  .op (.load xM (rowR off h).toLoadRect (View.loadsAt_vmem h_S512x512)) fun x =>
  .op (.load wM (colR dir ch).toLoadRect (View.loadsAt_vmem h_S512x256)) fun w =>
  .op (.load (ringM dir) (slotR s.castSucc ch).toLoadRect (View.loadsAt_vmem h_S1x1x512x256)) fun _ =>
  .op (.store (ringM dir) (slotR s.castSucc ch) (addP a x w) Finset.univ (View.stores_vmem_bits_univ h_S1x1x512x256 rfl) (.inl rfl)) fun _ => k

/-- The last addition of a chunk, stored in the result; the running largest value goes on. -/
def lastStep (dir : Bool) (ch : Fin 4) (off : Fin 2 → ℕ) (h : ∀ a, off a + S512x512.size a ≤ S4096x512.size a) (l : F .f32) (k : F .f32 → P F) : P F :=
  .op (.load (ringM dir) (slotR 6 ch).toLoadRect (View.loadsAt_vmem h_S1x1x512x256)) fun a =>
  .op (.load xM (rowR off h).toLoadRect (View.loadsAt_vmem h_S512x512)) fun x =>
  .op (.load wM (colR dir ch).toLoadRect (View.loadsAt_vmem h_S512x256)) fun w =>
  .op (.load oM (colR dir ch).toLoadRect (View.loadsAt_vmem h_S512x256)) fun _ =>
  .op (.store oM (colR dir ch) (lastP a x w) Finset.univ (View.stores_vmem_bits_univ h_S512x256 rfl) (.inl rfl)) fun _ => k (maxP l a x w)

/-- The barrier. -/
def barrierStep (l r : Dev nD) (k : P F) : P F :=
  .op (.semSignal (Dev.tc l) (sig.barrier 0 rfl) 1) fun _ =>
  .op (.semSignal (Dev.tc r) (sig.barrier 0 rfl) 1) fun _ =>
  .op (.semWait (sig.barrier 0 rfl) 2) fun _ => k

/-- One hop of the middle steps. -/
def hopStep (dir : Bool) (s : Fin 7) (ch : Fin 4) (off : Fin 2 → ℕ) (h : ∀ a, off a + S512x512.size a ≤ S4096x512.size a) (dst : Dev nD) (t : Fin 7) (k : P F) : P F :=
  waitStep dir s ch (addStep dir s ch off h (sendStep dir t ch dst k))

def amSend (o : Fin 7) (dst : Dev nD) (k : P F) : P F :=
  .op (.enqueueDma (amM 7) (.remote (Dev.tc dst) (amM o.castSucc) (.dma (asnd o)) rfl) (.dma (arcv o))
    ((View.wordExact_bits rfl).reshape _ _) ((View.wordExact_bits rfl).reshape _ _) ⟨⟨rfl, Or.inl rfl⟩, trivial⟩) fun _ => k

/-- The wait for a scalar's landing. -/
def amWait (o : Fin 7) (k : P F) : P F :=
  .op (.waitDma2 (arcv o) (amM 7) (amM o.castSucc) ((View.wordExact_bits rfl).reshape _ _) ((View.wordExact_bits rfl).reshape _ _)) fun _ => k

/-- The wait for a hop's source to be free again. -/
def sentStep (dir : Bool) (s : Fin 7) (ch : Fin 4) (k : P F) : P F :=
  .op (.waitDma2 (snd dir s ch) (slotM dir s.castSucc ch) (slotM dir (srcS s) ch)
    ((View.wordExact_bits rfl).reshape _ _) ((View.wordExact_bits rfl).reshape _ _)) fun _ => k

def amSent (o : Fin 7) (k : P F) : P F :=
  .op (.waitDma2 (asnd o) (amM o.castSucc) (amM 7) ((View.wordExact_bits rfl).reshape _ _) ((View.wordExact_bits rfl).reshape _ _)) fun _ => k

/-- The local largest value, spread over slot 7. -/
abbrev fillP (l : F .f32) : FVec F S1x1x128 .f32 := shapeCast S1x1x128 (broadcast S1x128 l) shapeCasts_S1x128_S1x1x128

def amStore (l : F .f32) (k : P F) : P F :=
  .op (.load aM (amR 7).toLoadRect (View.loadsAt_vmem h_S1x1x128)) fun _ =>
  .op (.store aM (amR 7) (fillP l) Finset.univ (View.stores_vmem_bits_univ h_S1x1x128 rfl) (.inl rfl)) fun _ => k

abbrev wholeO : Rect S512x2048 := Rect.unit (s := S512x2048) ![0, 0] S512x2048.size inb_S512x2048_S512x2048_0_0

/-- The quantised result from the seven other devices' largest values and this device's. -/
abbrev quantP (l : F .f32) (a0 a1 a2 a3 a4 a5 a6 : Vec F S1x1x128 .f32) (y : Vec F S512x2048 .f32) : FVec F S512x2048 .f32 :=
  k0_pay101 (k0_pay100 l a0 a1) a2 a3 a4 a5 a6 y

def quantStep (l : F .f32) (k : P F) : P F :=
  .op (.load aM (amR 0).toLoadRect (View.loadsAt_vmem h_S1x1x128)) fun a0 =>
  .op (.load aM (amR 1).toLoadRect (View.loadsAt_vmem h_S1x1x128)) fun a1 =>
  .op (.load aM (amR 2).toLoadRect (View.loadsAt_vmem h_S1x1x128)) fun a2 =>
  .op (.load aM (amR 3).toLoadRect (View.loadsAt_vmem h_S1x1x128)) fun a3 =>
  .op (.load aM (amR 4).toLoadRect (View.loadsAt_vmem h_S1x1x128)) fun a4 =>
  .op (.load aM (amR 5).toLoadRect (View.loadsAt_vmem h_S1x1x128)) fun a5 =>
  .op (.load aM (amR 6).toLoadRect (View.loadsAt_vmem h_S1x1x128)) fun a6 =>
  .op (.load oM wholeO.toLoadRect (View.loadsAt_vmem h_S512x2048)) fun y =>
  .op (.load oM wholeO.toLoadRect (View.loadsAt_vmem h_S512x2048)) fun _ =>
  .op (.store oM wholeO (quantP l a0 a1 a2 a3 a4 a5 a6 y) Finset.univ (View.stores_vmem_bits_univ h_S512x2048 rfl) (.inl rfl)) fun _ => k

/-- The whole body of one device. -/
def body (c : Dev nD) : P F :=
  barrierStep ⟨k0_dev1 c, k0_dev1_lt c⟩ ⟨k0_dev2 c, k0_dev2_lt c⟩ <|
  initStep true 0 (k0_off1 c) (k0_off1_inb c) <| sendStep true 0 0 ⟨k0_dev3 c, k0_dev3_lt c⟩ <|
  initStep false 0 (k0_off2 c) (k0_off2_inb c) <| sendStep false 0 0 ⟨k0_dev4 c, k0_dev4_lt c⟩ <|
  initStep true 1 (k0_off1 c) (k0_off1_inb c) <| sendStep true 0 1 ⟨k0_dev5 c, k0_dev5_lt c⟩ <|
  initStep false 1 (k0_off2 c) (k0_off2_inb c) <| sendStep false 0 1 ⟨k0_dev6 c, k0_dev6_lt c⟩ <|
  initStep true 2 (k0_off1 c) (k0_off1_inb c) <| sendStep true 0 2 ⟨k0_dev7 c, k0_dev7_lt c⟩ <|
  initStep false 2 (k0_off2 c) (k0_off2_inb c) <| sendStep false 0 2 ⟨k0_dev8 c, k0_dev8_lt c⟩ <|
  initStep true 3 (k0_off1 c) (k0_off1_inb c) <| sendStep true 0 3 ⟨k0_dev9 c, k0_dev9_lt c⟩ <|
  initStep false 3 (k0_off2 c) (k0_off2_inb c) <| sendStep false 0 3 ⟨k0_dev10 c, k0_dev10_lt c⟩ <|
  hopStep true 0 0 (k0_off3 c 1#32) (k0_off3_inb c 0) ⟨k0_dev11 c, k0_dev11_lt c⟩ 1 <|
  hopStep false 0 0 (k0_off4 c 1#32) (k0_off4_inb c 0) ⟨k0_dev12 c, k0_dev12_lt c⟩ 1 <|
  hopStep true 0 1 (k0_off3 c 1#32) (k0_off3_inb c 0) ⟨k0_dev13 c, k0_dev13_lt c⟩ 1 <|
  hopStep false 0 1 (k0_off4 c 1#32) (k0_off4_inb c 0) ⟨k0_dev14 c, k0_dev14_lt c⟩ 1 <|
  hopStep true 0 2 (k0_off3 c 1#32) (k0_off3_inb c 0) ⟨k0_dev15 c, k0_dev15_lt c⟩ 1 <|
  hopStep false 0 2 (k0_off4 c 1#32) (k0_off4_inb c 0) ⟨k0_dev16 c, k0_dev16_lt c⟩ 1 <|
  hopStep true 0 3 (k0_off3 c 1#32) (k0_off3_inb c 0) ⟨k0_dev17 c, k0_dev17_lt c⟩ 1 <|
  hopStep false 0 3 (k0_off4 c 1#32) (k0_off4_inb c 0) ⟨k0_dev18 c, k0_dev18_lt c⟩ 1 <|
  hopStep true 1 0 (k0_off3 c 2#32) (k0_off3_inb c 1) ⟨k0_dev19 c, k0_dev19_lt c⟩ 2 <|
  hopStep false 1 0 (k0_off4 c 2#32) (k0_off4_inb c 1) ⟨k0_dev20 c, k0_dev20_lt c⟩ 2 <|
  hopStep true 1 1 (k0_off3 c 2#32) (k0_off3_inb c 1) ⟨k0_dev21 c, k0_dev21_lt c⟩ 2 <|
  hopStep false 1 1 (k0_off4 c 2#32) (k0_off4_inb c 1) ⟨k0_dev22 c, k0_dev22_lt c⟩ 2 <|
  hopStep true 1 2 (k0_off3 c 2#32) (k0_off3_inb c 1) ⟨k0_dev23 c, k0_dev23_lt c⟩ 2 <|
  hopStep false 1 2 (k0_off4 c 2#32) (k0_off4_inb c 1) ⟨k0_dev24 c, k0_dev24_lt c⟩ 2 <|
  hopStep true 1 3 (k0_off3 c 2#32) (k0_off3_inb c 1) ⟨k0_dev25 c, k0_dev25_lt c⟩ 2 <|
  hopStep false 1 3 (k0_off4 c 2#32) (k0_off4_inb c 1) ⟨k0_dev26 c, k0_dev26_lt c⟩ 2 <|
  hopStep true 2 0 (k0_off3 c 3#32) (k0_off3_inb c 2) ⟨k0_dev27 c, k0_dev27_lt c⟩ 3 <|
  hopStep false 2 0 (k0_off4 c 3#32) (k0_off4_inb c 2) ⟨k0_dev28 c, k0_dev28_lt c⟩ 3 <|
  hopStep true 2 1 (k0_off3 c 3#32) (k0_off3_inb c 2) ⟨k0_dev29 c, k0_dev29_lt c⟩ 3 <|
  hopStep false 2 1 (k0_off4 c 3#32) (k0_off4_inb c 2) ⟨k0_dev30 c, k0_dev30_lt c⟩ 3 <|
  hopStep true 2 2 (k0_off3 c 3#32) (k0_off3_inb c 2) ⟨k0_dev31 c, k0_dev31_lt c⟩ 3 <|
  hopStep false 2 2 (k0_off4 c 3#32) (k0_off4_inb c 2) ⟨k0_dev32 c, k0_dev32_lt c⟩ 3 <|
  hopStep true 2 3 (k0_off3 c 3#32) (k0_off3_inb c 2) ⟨k0_dev33 c, k0_dev33_lt c⟩ 3 <|
  hopStep false 2 3 (k0_off4 c 3#32) (k0_off4_inb c 2) ⟨k0_dev34 c, k0_dev34_lt c⟩ 3 <|
  hopStep true 3 0 (k0_off3 c 4#32) (k0_off3_inb c 3) ⟨k0_dev35 c, k0_dev35_lt c⟩ 4 <|
  hopStep false 3 0 (k0_off4 c 4#32) (k0_off4_inb c 3) ⟨k0_dev36 c, k0_dev36_lt c⟩ 4 <|
  hopStep true 3 1 (k0_off3 c 4#32) (k0_off3_inb c 3) ⟨k0_dev37 c, k0_dev37_lt c⟩ 4 <|
  hopStep false 3 1 (k0_off4 c 4#32) (k0_off4_inb c 3) ⟨k0_dev38 c, k0_dev38_lt c⟩ 4 <|
  hopStep true 3 2 (k0_off3 c 4#32) (k0_off3_inb c 3) ⟨k0_dev39 c, k0_dev39_lt c⟩ 4 <|
  hopStep false 3 2 (k0_off4 c 4#32) (k0_off4_inb c 3) ⟨k0_dev40 c, k0_dev40_lt c⟩ 4 <|
  hopStep true 3 3 (k0_off3 c 4#32) (k0_off3_inb c 3) ⟨k0_dev41 c, k0_dev41_lt c⟩ 4 <|
  hopStep false 3 3 (k0_off4 c 4#32) (k0_off4_inb c 3) ⟨k0_dev42 c, k0_dev42_lt c⟩ 4 <|
  hopStep true 4 0 (k0_off3 c 5#32) (k0_off3_inb c 4) ⟨k0_dev43 c, k0_dev43_lt c⟩ 5 <|
  hopStep false 4 0 (k0_off4 c 5#32) (k0_off4_inb c 4) ⟨k0_dev44 c, k0_dev44_lt c⟩ 5 <|
  hopStep true 4 1 (k0_off3 c 5#32) (k0_off3_inb c 4) ⟨k0_dev45 c, k0_dev45_lt c⟩ 5 <|
  hopStep false 4 1 (k0_off4 c 5#32) (k0_off4_inb c 4) ⟨k0_dev46 c, k0_dev46_lt c⟩ 5 <|
  hopStep true 4 2 (k0_off3 c 5#32) (k0_off3_inb c 4) ⟨k0_dev47 c, k0_dev47_lt c⟩ 5 <|
  hopStep false 4 2 (k0_off4 c 5#32) (k0_off4_inb c 4) ⟨k0_dev48 c, k0_dev48_lt c⟩ 5 <|
  hopStep true 4 3 (k0_off3 c 5#32) (k0_off3_inb c 4) ⟨k0_dev49 c, k0_dev49_lt c⟩ 5 <|
  hopStep false 4 3 (k0_off4 c 5#32) (k0_off4_inb c 4) ⟨k0_dev50 c, k0_dev50_lt c⟩ 5 <|
  hopStep true 5 0 (k0_off3 c 6#32) (k0_off3_inb c 5) ⟨k0_dev51 c, k0_dev51_lt c⟩ 6 <|
  hopStep false 5 0 (k0_off4 c 6#32) (k0_off4_inb c 5) ⟨k0_dev52 c, k0_dev52_lt c⟩ 6 <|
  hopStep true 5 1 (k0_off3 c 6#32) (k0_off3_inb c 5) ⟨k0_dev53 c, k0_dev53_lt c⟩ 6 <|
  hopStep false 5 1 (k0_off4 c 6#32) (k0_off4_inb c 5) ⟨k0_dev54 c, k0_dev54_lt c⟩ 6 <|
  hopStep true 5 2 (k0_off3 c 6#32) (k0_off3_inb c 5) ⟨k0_dev55 c, k0_dev55_lt c⟩ 6 <|
  hopStep false 5 2 (k0_off4 c 6#32) (k0_off4_inb c 5) ⟨k0_dev56 c, k0_dev56_lt c⟩ 6 <|
  hopStep true 5 3 (k0_off3 c 6#32) (k0_off3_inb c 5) ⟨k0_dev57 c, k0_dev57_lt c⟩ 6 <|
  hopStep false 5 3 (k0_off4 c 6#32) (k0_off4_inb c 5) ⟨k0_dev58 c, k0_dev58_lt c⟩ 6 <|
  waitStep true 6 0 <| lastStep true 0 (k0_off5 c) (k0_off5_inb c) zero0 fun l1 =>
  waitStep false 6 0 <| lastStep false 0 (k0_off5 c) (k0_off5_inb c) l1 fun l2 =>
  waitStep true 6 1 <| lastStep true 1 (k0_off5 c) (k0_off5_inb c) l2 fun l3 =>
  waitStep false 6 1 <| lastStep false 1 (k0_off5 c) (k0_off5_inb c) l3 fun l4 =>
  waitStep true 6 2 <| lastStep true 2 (k0_off5 c) (k0_off5_inb c) l4 fun l5 =>
  waitStep false 6 2 <| lastStep false 2 (k0_off5 c) (k0_off5_inb c) l5 fun l6 =>
  waitStep true 6 3 <| lastStep true 3 (k0_off5 c) (k0_off5_inb c) l6 fun l7 =>
  waitStep false 6 3 <| lastStep false 3 (k0_off5 c) (k0_off5_inb c) l7 fun l8 =>
  amStore l8 <|
  amSend 0 ⟨k0_dev59 c, k0_dev59_lt c⟩ <|
  amSend 1 ⟨k0_dev60 c, k0_dev60_lt c⟩ <|
  amSend 2 ⟨k0_dev61 c, k0_dev61_lt c⟩ <|
  amSend 3 ⟨k0_dev62 c, k0_dev62_lt c⟩ <|
  amSend 4 ⟨k0_dev63 c, k0_dev63_lt c⟩ <|
  amSend 5 ⟨k0_dev64 c, k0_dev64_lt c⟩ <|
  amSend 6 ⟨k0_dev65 c, k0_dev65_lt c⟩ <|
  amWait 0 <|
  amWait 1 <|
  amWait 2 <|
  amWait 3 <|
  amWait 4 <|
  amWait 5 <|
  amWait 6 <|
  quantStep l8 <|
  sentStep true 0 0 <| sentStep true 0 1 <| sentStep true 0 2 <| sentStep true 0 3 <|
  sentStep true 1 0 <| sentStep true 1 1 <| sentStep true 1 2 <| sentStep true 1 3 <|
  sentStep true 2 0 <| sentStep true 2 1 <| sentStep true 2 2 <| sentStep true 2 3 <|
  sentStep true 3 0 <| sentStep true 3 1 <| sentStep true 3 2 <| sentStep true 3 3 <|
  sentStep true 4 0 <| sentStep true 4 1 <| sentStep true 4 2 <| sentStep true 4 3 <|
  sentStep true 5 0 <| sentStep true 5 1 <| sentStep true 5 2 <| sentStep true 5 3 <|
  sentStep true 6 0 <| sentStep true 6 1 <| sentStep true 6 2 <| sentStep true 6 3 <|
  sentStep false 0 0 <| sentStep false 0 1 <| sentStep false 0 2 <| sentStep false 0 3 <|
  sentStep false 1 0 <| sentStep false 1 1 <| sentStep false 1 2 <| sentStep false 1 3 <|
  sentStep false 2 0 <| sentStep false 2 1 <| sentStep false 2 2 <| sentStep false 2 3 <|
  sentStep false 3 0 <| sentStep false 3 1 <| sentStep false 3 2 <| sentStep false 3 3 <|
  sentStep false 4 0 <| sentStep false 4 1 <| sentStep false 4 2 <| sentStep false 4 3 <|
  sentStep false 5 0 <| sentStep false 5 1 <| sentStep false 5 2 <| sentStep false 5 3 <|
  sentStep false 6 0 <| sentStep false 6 1 <| sentStep false 6 2 <| sentStep false 6 3 <|
  amSent 0 <| amSent 1 <| amSent 2 <| amSent 3 <| amSent 4 <| amSent 5 <| amSent 6 <|
  .ret ⟨⟩

set_option maxRecDepth 65536 in
set_option maxHeartbeats 0 in
/-- The printed body is the short program. -/
theorem body_eq : cc0_body (F := F) xM (Memref.isWhole_whole _) wM (Memref.isWhole_whole _) oM (Memref.isWhole_whole _)
    (ringM true) (Memref.isWhole_whole _) (ringM false) (Memref.isWhole_whole _) aM (Memref.isWhole_whole _)
    cc0_scratch3 cc0_scratch4 cc0_scratch5 cc0_scratch6 cc0_scratch7 cc0_scratch8 = .op .deviceId fun c => body c := by
  rw [cc0_body_eq_skeleton]
  rfl

end Cert.KernelIdeal.Ring
-- ==== Proof.Cells.lean ====
/-
# Devices, cells and the protocol's levels

The semaphore cells of one device by what they are for, the neighbours of a device, what is owed, and why a wait may
happen: a wait on a hop's landing only while every transfer still owed is of a later hop.
-/
module

public import proofs.«01_k».proof.Proof.Prog
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev UB : Type := URounds (GSem nD τ sig) Bool
abbrev UU : Type := UR sig nD τ × UB

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Devices -/

/-- The device `n` places to the right. -/
def dev (c : Dev nD) (n : ℕ) : Dev nD := ⟨(c.val + n) % 8, Nat.mod_lt _ (by decide)⟩
/-- The device a direction sends to. -/
def fwd (dir : Bool) (c : Dev nD) : Dev nD := match dir with
  | true => dev c 1
  | false => dev c 7
/-- The device a direction receives from. -/
def frm (dir : Bool) (c : Dev nD) : Dev nD := match dir with
  | true => dev c 7
  | false => dev c 1

theorem dev_dev (c : Dev nD) (a b : ℕ) : dev (dev c a) b = dev c (a + b) :=
  Fin.ext (by show ((c.val + a) % 8 + b) % 8 = (c.val + (a + b)) % 8; omega)
theorem dev_mod (c : Dev nD) (a b : ℕ) (h : a % 8 = b % 8) : dev c a = dev c b :=
  Fin.ext (by show (c.val + a) % 8 = (c.val + b) % 8; omega)
theorem dev_zero (c : Dev nD) : dev c 0 = c :=
  Fin.ext (by have h : c.val < 8 := c.isLt; show (c.val + 0) % 8 = c.val; omega)
theorem dev_eight (c : Dev nD) : dev c 8 = c := (dev_mod c 8 0 rfl).trans (dev_zero c)
theorem frm_fwd (dir : Bool) (c : Dev nD) : frm dir (fwd dir c) = c := by
  cases dir <;> exact (dev_dev c _ _).trans (dev_eight c)
theorem fwd_frm (dir : Bool) (c : Dev nD)   : fwd dir (frm dir c) = c := by
  cases dir <;> exact (dev_dev c _ _).trans (dev_eight c)
theorem fwd_not (dir : Bool) (c : Dev nD) : fwd (!dir) c = frm dir c := by cases dir <;> rfl

/-- A rotation of the devices. -/
def rot (n : ℕ) (h : n ≤ 8) : Dev nD ≃ Dev nD :=
  ⟨fun c => dev c n, fun c => dev c (8 - n),
    fun c => (dev_dev c _ _).trans ((congrArg (dev c) (show n + (8 - n) = 8 by omega)).trans (dev_eight c)),
    fun c => (dev_dev c _ _).trans ((congrArg (dev c) (show 8 - n + n = 8 by omega)).trans (dev_eight c))⟩
/-- The rotation of a direction. -/
def toE (dir : Bool) : Dev nD ≃ Dev nD := ⟨fwd dir, frm dir, frm_fwd dir, fwd_frm dir⟩

/-! ## Cells -/

/-- The kernel's own semaphores: of a hop (receive or send, direction, step, chunk), of a scalar (receive or send, place). -/
abbrev Own : Type := (Bool × Bool × Fin 7 × Fin 4) ⊕ (Bool × Fin 7)
/-- All semaphores of the protocol: `none` is the barrier. -/
abbrev Cel : Type := Option Own
instance : DecidableEq Cel := Option.instDecidableEq
instance : DecidableEq (Option Cel) := Option.instDecidableEq

def osem : Own → SemLoc sig
  | .inl (true, dir, s, ch) => .dma (rcv dir s ch)
  | .inl (false, dir, s, ch) => .dma (snd dir s ch)
  | .inr (true, o) => .dma (arcv o)
  | .inr (false, o) => .dma (asnd o)
def csem : Cel → SemLoc sig
  | none => .reg (sig.barrier 0 rfl)
  | some k => osem k

/-- What a semaphore is for; `none`: not of the protocol. -/
def kindOf : SemLoc sig → Option Cel
  | .reg _ => some none
  | .dma n =>
    if n.val < 3 then none
    else if n.val < 115 then
      let i := n.val - 3
      some (some (.inl (decide ((i / 28) % 2 = 1), decide (i / 56 = 0), ⟨(i / 4) % 7, Nat.mod_lt _ (by decide)⟩, ⟨i % 4, Nat.mod_lt _ (by decide)⟩)))
    else
      let i := n.val - 115
      some (some (.inr (decide (i / 7 = 1), ⟨i % 7, Nat.mod_lt _ (by decide)⟩)))

set_option maxRecDepth 20000 in
theorem kindOf_osem (k : Own) : kindOf (osem k) = some (some k) := by
  rcases k with ⟨r, dir, s, ch⟩ | ⟨r, o⟩
  · revert r dir s ch; decide
  · revert r o; decide
theorem kindOf_csem (k : Cel) : kindOf (csem k) = some k := by
  cases k with
  | none => rfl
  | some k => exact kindOf_osem k
theorem csem_injective : Function.Injective csem := fun a b h =>
  Option.some.inj ((kindOf_csem a).symm.trans ((congrArg kindOf h).trans (kindOf_csem b)))

/-- A cell of the protocol. -/
abbrev cell (c : Dev nD) (k : Cel) : GSem nD τ sig := ((c : Thread nD τ), csem k)
abbrev kRcv (dir : Bool) (s : Fin 7) (ch : Fin 4) : Cel := some (.inl (true, dir, s, ch))
abbrev kSnd (dir : Bool) (s : Fin 7) (ch : Fin 4) : Cel := some (.inl (false, dir, s, ch))
abbrev kArcv (o : Fin 7) : Cel := some (.inr (true, o))
abbrev kAsnd (o : Fin 7) : Cel := some (.inr (false, o))

theorem cell_inj {c d : Dev nD} {k l : Cel} (h : cell c k = cell d l) : c = d ∧ k = l :=
  ⟨Fin.ext (congrArg (fun g : GSem nD τ sig => g.1.1.val) h), csem_injective (congrArg Prod.snd h)⟩
theorem cell_eq_iff {c d : Dev nD} {k l : Cel} : Iff (cell c k = cell d l) (c = d ∧ k = l) :=
  ⟨cell_inj, fun ⟨h, h'⟩ => h ▸ h' ▸ rfl⟩

/-- What a slot's transfer credits, and a scalar's. -/
def N : ℕ := (slotM true 0 0).view.dmaCredit
def NA : ℕ := (amM 0).view.dmaCredit
theorem N_pos : 0 < N := View.dmaCredit_pos _ (by decide)
theorem NA_pos : 0 < NA := View.dmaCredit_pos _ (by decide)
theorem credit_slot (dir : Bool) (s : Fin 8) (ch : Fin 4) : (slotM dir s ch).view.dmaCredit = N := by cases dir <;> rfl
theorem credit_am (s : Fin 8) : (amM s).view.dmaCredit = NA := rfl

/-! ## Hops in order -/

/-- A hop: its step and chunk. -/
abbrev Hop : Type := Fin 7 × Fin 4
def rank (h : Hop) : ℕ := 4 * h.1.val + h.2.val
/-- The hops from the `n`th on, and those before it. -/
def rest (n : ℕ) : Finset Hop := Finset.univ.filter fun h => n ≤ rank h
def done (n : ℕ) : Finset Hop := Finset.univ.filter fun h => rank h < n

theorem rank_inj {h h' : Hop} (e : rank h = rank h') : h = h' := by
  obtain ⟨s, ch⟩ := h; obtain ⟨s', ch'⟩ := h'
  have h1 := ch.isLt; have h2 := ch'.isLt
  simp only [rank] at e
  exact Prod.ext (Fin.ext (by show s.val = s'.val; omega)) (Fin.ext (by show ch.val = ch'.val; omega))
theorem rest_cons (h : Hop) : rest (rank h) = insert h (rest (rank h + 1)) := by
  ext h'
  simp only [rest, Finset.mem_filter, Finset.mem_univ, true_and, Finset.mem_insert]
  constructor
  · intro hh
    by_cases e : h' = h
    · exact .inl e
    · exact .inr (by have : rank h' ≠ rank h := fun e' => e (rank_inj e'); omega)
  · rintro (rfl | hh)
    · exact le_rfl
    · omega
theorem not_mem_rest (h : Hop) : h ∉ rest (rank h + 1) := by
  simp only [rest, Finset.mem_filter, Finset.mem_univ, true_and]; omega
theorem done_snoc (h : Hop) : done (rank h + 1) = insert h (done (rank h)) := by
  ext h'
  simp only [done, Finset.mem_filter, Finset.mem_univ, true_and, Finset.mem_insert]
  constructor
  · intro hh
    by_cases e : h' = h
    · exact .inl e
    · exact .inr (by have : rank h' ≠ rank h := fun e' => e (rank_inj e'); omega)
  · rintro (rfl | hh)
    · omega
    · omega
theorem not_mem_done (h : Hop) : h ∉ done (rank h) := by
  simp only [done, Finset.mem_filter, Finset.mem_univ, true_and]; omega
theorem rank_lt (h : Hop) : rank h < 28 := by
  have h1 := h.1.isLt; have h2 := h.2.isLt; unfold rank; omega
theorem rest_zero : rest 0 = Finset.univ := by
  unfold rest; exact Finset.filter_true_of_mem fun h _ => Nat.zero_le _
theorem rest_all : rest 28 = ∅ := by
  unfold rest; exact Finset.filter_false_of_mem fun h _ => by have := rank_lt h; omega
theorem done_zero : done 0 = ∅ := by
  unfold done; exact Finset.filter_false_of_mem fun h _ => Nat.not_lt_zero _
theorem done_all : done 28 = Finset.univ := by
  unfold done; exact Finset.filter_true_of_mem fun h _ => rank_lt h

/-- The scalar places from the `n`th on, and those before it. -/
def restA (n : ℕ) : Finset (Fin 7) := Finset.univ.filter fun o => n ≤ o.val
def doneA (n : ℕ) : Finset (Fin 7) := Finset.univ.filter fun o => o.val < n
theorem restA_cons (o : Fin 7) : restA o.val = insert o (restA (o.val + 1)) := by revert o; decide
theorem not_mem_restA (o : Fin 7) : o ∉ restA (o.val + 1) := by revert o; decide
theorem doneA_snoc (o : Fin 7) : doneA (o.val + 1) = insert o (doneA o.val) := by revert o; decide
theorem not_mem_doneA (o : Fin 7) : o ∉ doneA o.val := by revert o; decide
theorem restA_zero : restA 0 = Finset.univ := by decide
theorem restA_all : restA 7 = ∅ := by decide
theorem doneA_zero : doneA 0 = ∅ := by decide
theorem doneA_all : doneA 7 = Finset.univ := by decide

section BigSep
variable {M : Type} [URA M]

theorem bigSep_rest (h : Hop) (Φ : Hop → sProp M) : bigSep (rest (rank h)) Φ = iprop(Φ h ∗ bigSep (rest (rank h + 1)) Φ) := by
  rw [rest_cons]; exact bigSep_insert (not_mem_rest h)
theorem bigSep_done (h : Hop) (Φ : Hop → sProp M) : bigSep (done (rank h + 1)) Φ = iprop(Φ h ∗ bigSep (done (rank h)) Φ) := by
  rw [done_snoc]; exact bigSep_insert (not_mem_done h)
theorem bigSep_restA (o : Fin 7) (Φ : Fin 7 → sProp M) : bigSep (restA o.val) Φ = iprop(Φ o ∗ bigSep (restA (o.val + 1)) Φ) := by
  rw [restA_cons]; exact bigSep_insert (not_mem_restA o)
theorem bigSep_doneA (o : Fin 7) (Φ : Fin 7 → sProp M) : bigSep (doneA (o.val + 1)) Φ = iprop(Φ o ∗ bigSep (doneA o.val) Φ) := by
  rw [doneA_snoc]; exact bigSep_insert (not_mem_doneA o)

end BigSep

/-! ## What is owed -/

/-- The landings still owed of a direction from the `n`th hop on. -/
def owD (c : Dev nD) (dir : Bool) (n : ℕ) : CellTallies nD τ sig Unit := ∑ h ∈ rest n, tallyAt (cell (fwd dir c) (kRcv dir h.1 h.2)) () N
/-- The scalars still owed from place `n` on. -/
def owA (c : Dev nD) (n : ℕ) : CellTallies nD τ sig Unit := ∑ o ∈ restA n, tallyAt (cell (dev c (o.val + 1)) (kArcv o)) () NA
/-- All that is owed after the barrier's signals. -/
def O₂ (c : Dev nD) : CellTallies nD τ sig Unit := owD c true 0 + (owD c false 0 + owA c 0)
def O₁ (c : Dev nD) : CellTallies nD τ sig Unit := O₂ c + tallyAt (cell (dev c 1) none) () 1
def O₀ (c : Dev nD) : CellTallies nD τ sig Unit := O₁ c + tallyAt (cell (dev c 7) none) () 1

theorem owD_cons (c : Dev nD) (dir : Bool) (h : Hop) :
    owD c dir (rank h) = owD c dir (rank h + 1) + tallyAt (cell (fwd dir c) (kRcv dir h.1 h.2)) () N := by
  unfold owD; rw [rest_cons, Finset.sum_insert (not_mem_rest h), add_comm]
theorem owD_all (c : Dev nD) (dir : Bool) : owD c dir 28 = 0 := by unfold owD; rw [rest_all, Finset.sum_empty]
theorem owA_cons (c : Dev nD) (o : Fin 7) : owA c o.val = owA c (o.val + 1) + tallyAt (cell (dev c (o.val + 1)) (kArcv o)) () NA := by
  unfold owA; rw [restA_cons, Finset.sum_insert (not_mem_restA o), add_comm]
theorem owA_all (c : Dev nD) : owA c 7 = 0 := by unfold owA; rw [restA_all, Finset.sum_empty]

/-! ## Levels -/

def L (g : GSem nD τ sig) : Finset Unit := if g.1.2 = .tc then {()} else ∅
def lvK : Option Cel → ℕ
  | some none => 1
  | some (some (.inl (true, _, s, _))) => s.val + 2
  | some (some (.inr (true, _))) => 20
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cel) : lv (cell c k) () = lvK (some k) := by unfold lv; rw [kindOf_csem]

/-- Everything a sum owes is on TensorCore cells above a level. -/
def Above (b : ℕ) (O : CellTallies nD τ sig Unit) : Prop := ∀ (g : GSem nD τ sig) (u : Unit), 0 < O g u → g.1.2 = .tc ∧ b < lv g u

theorem above_add {b : ℕ} {O O' : CellTallies nD τ sig Unit} (h : Above b O) (h' : Above b O') : Above b (O + O') := by
  intro g u hg
  rw [Pi.add_apply, Finsupp.add_apply] at hg
  rcases Nat.eq_zero_or_pos (O g u) with e | e
  · exact h' g u (by omega)
  · exact h g u e
theorem above_tally {b : ℕ} {c : Dev nD} {k : Cel} {n : ℕ} (h : b < lvK (some k)) : Above b (tallyAt (cell c k) () n) := by
  intro g u hg
  rw [tallyAt_apply] at hg
  by_cases e : g = cell c k ∧ u = ()
  · obtain ⟨rfl, rfl⟩ := e; exact ⟨rfl, by rw [lv_cell]; exact h⟩
  · rw [if_neg e] at hg; exact absurd hg (Nat.lt_irrefl 0)
theorem above_sum {I : Type} {b : ℕ} {s : Finset I} {f : I → CellTallies nD τ sig Unit} (h : ∀ i ∈ s, Above b (f i)) : Above b (∑ i ∈ s, f i) := by
  classical
  induction s using Finset.induction_on with
  | empty => intro g u hg; rw [Finset.sum_empty] at hg; exact absurd hg (Nat.lt_irrefl 0)
  | insert a t ha ih =>
    rw [Finset.sum_insert ha]
    exact above_add (h a (Finset.mem_insert_self _ _)) (ih fun i hi => h i (Finset.mem_insert_of_mem hi))

theorem above_owD {b n : ℕ} (c : Dev nD) (dir : Bool) (h : 4 * b ≤ n + 4) : Above b (owD c dir n) := by
  refine above_sum fun i hi => above_tally ?_
  have h1 : n ≤ rank i := (Finset.mem_filter.mp hi).2
  have h2 := i.2.isLt
  show b < i.1.val + 2
  unfold rank at h1; omega
theorem above_owA {b : ℕ} (c : Dev nD) (n : ℕ) (h : b < 20) : Above b (owA c n) := above_sum fun i hi => above_tally h

/-- A wait below everything owed is allowed. -/
theorem mayWait {c : Dev nD} {sm : SemLoc sig} {O : CellTallies nD τ sig Unit} (b : ℕ) (h : Above b O) (hs : lv ((c : Thread nD τ), sm) () ≤ b) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

end Cert.KernelIdeal.Ring

end
-- ==== Proof.Protocol.lean ====
/-
# Contents and the schedule of payloads

What every slot holds when it is handed on, and what each semaphore's round hands over: a landing its slot at the
running sum, a send its source slot back, the barrier a neighbour's empty landing slots.
-/
module

public import proofs.«01_k».proof.Proof.Cells

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Values -/

/-- The two operands as staged on device `c`. -/
def xs (c : Dev nD) : Buf (Elt F) ((c : Thread nD τ).loc cc0_stg0_0) := (win0_0.blk (0 : Fin 1)).view.read (Elt F) (m ((c : Thread nD τ).loc main_arg0))
def ws (c : Dev nD) : Buf (Elt F) ((c : Thread nD τ).loc cc0_stg1_0) := (win0_1.blk (0 : Fin 1)).view.read (Elt F) (m ((c : Thread nD τ).loc main_arg1))

/-- The block of rows a device adds at a step of a direction; at step 7 its own. -/
def blk (dir : Bool) (s : ℕ) (c : Dev nD) : Fin 8 := match dir with
  | true => ⟨(c.val + (7 - s)) % 8, Nat.mod_lt _ (by decide)⟩
  | false => ⟨(c.val + (s + 1)) % 8, Nat.mod_lt _ (by decide)⟩
def offs (b : Fin 8) : Fin 2 → ℕ := ![512 * b.val, 0]
theorem inb_row (b : Fin 8) : ∀ a, offs b a + S512x512.size a ≤ S4096x512.size a := by revert b; decide

def xb (c : Dev nD) (b : Fin 8) : Vec F S512x512 .f32 := xM.view.readAt (Elt F) (rowR (offs b) (inb_row b)).toLoadRect (xs m c)
def wb (c : Dev nD) (dir : Bool) (ch : Fin 4) : Vec F S512x256 .f32 := wM.view.readAt (Elt F) (colR dir ch).toLoadRect (ws m c)

/-- The running sum of a chunk after device `c`'s addition at step `s`. -/
def acc (dir : Bool) (ch : Fin 4) : ℕ → Dev nD → FVec F S1x1x512x256 .f32
  | 0, c => start0 (xb m c (blk dir 0 c)) (wb m c dir ch)
  | s + 1, c => addP (acc dir ch s (frm dir c)) (xb m c (blk dir (s + 1) c)) (wb m c dir ch)
/-- The finished chunk, clipped below at zero. -/
def fin (c : Dev nD) (dir : Bool) (ch : Fin 4) : FVec F S512x256 .f32 :=
  lastP (acc m dir ch 6 (frm dir c)) (xb m c (blk dir 7 c)) (wb m c dir ch)

/-- The order the chunks are finished in. -/
def dirOf (j : ℕ) : Bool := decide (j % 2 = 0)
def chOf (j : ℕ) : Fin 4 := ⟨j / 2 % 4, Nat.mod_lt _ (by decide)⟩

/-- The running largest value after `j` finished chunks. -/
def lmax (c : Dev nD) : ℕ → F .f32
  | 0 => zero0
  | j + 1 => maxP (lmax c j) (acc m (dirOf j) (chOf j) 6 (frm (dirOf j) c)) (xb m c (blk (dirOf j) 7 c)) (wb m c (dirOf j) (chOf j))
abbrev lm (c : Dev nD) : F .f32 := lmax m c 8

/-! ## Holdings -/

def slotP (c : Dev nD) (dir : Bool) (s : Fin 8) (ch : Fin 4) (f : Buf (Elt F) ((ringM dir).view.loc (c : Thread nD τ))) : sProp 𝕄 :=
  (ringM dir).view.loc (c : Thread nD τ) ↦[((ringM dir).access (slotR s ch)).set]{fullShare} f
/-- A slot at any contents. -/
def slotE (c : Dev nD) (dir : Bool) (s : Fin 8) (ch : Fin 4) : sProp 𝕄 := iprop(∃ f, slotP c dir s ch f)
/-- A slot that reads `V`. -/
def slotV (c : Dev nD) (dir : Bool) (s : Fin 8) (ch : Fin 4) (V : FVec F S1x1x512x256 .f32) : sProp 𝕄 :=
  iprop(∃ f, ⌜((ringM dir).access (slotR s ch)).read (Elt F) f = V⌝ ∗ slotP c dir s ch f)

def amP (q : PosShare TreeShare) (c : Dev nD) (s : Fin 8) (f : Buf (Elt F) ((c : Thread nD τ).loc cc0_scratch2)) : sProp 𝕄 :=
  ((c : Thread nD τ).loc cc0_scratch2) ↦[(aM.access (amR s)).set]{q} f
def amE (c : Dev nD) (s : Fin 8) : sProp 𝕄 := iprop(∃ f, amP fullShare c s f)
/-- A scalar's place that reads `l` throughout. -/
def amV (q : PosShare TreeShare) (c : Dev nD) (s : Fin 8) (l : F .f32) : sProp 𝕄 :=
  iprop(∃ f, ⌜(aM.access (amR s)).read (Elt F) f = (fun _ => l : FVec F S1x1x128 .f32)⌝ ∗ amP q c s f)

omit [FloatOps F] in
instance slotP_storable (c : Dev nD) (dir s ch f) : BI.Storable (upEmb : UEmb _ 𝕄) (slotP (F := F) c dir s ch f) := by unfold slotP; infer_instance
omit [FloatOps F] in
instance slotE_storable (c : Dev nD) (dir s ch) : BI.Storable (upEmb : UEmb _ 𝕄) (slotE (F := F) c dir s ch) := by unfold slotE; infer_instance
instance slotV_storable (c : Dev nD) (dir s ch V) : BI.Storable (upEmb : UEmb _ 𝕄) (slotV (F := F) c dir s ch V) := by unfold slotV; infer_instance
omit [FloatOps F] in
instance amP_storable (q) (c : Dev nD) (s f) : BI.Storable (upEmb : UEmb _ 𝕄) (amP (F := F) q c s f) := by unfold amP; infer_instance
omit [FloatOps F] in
instance amE_storable (c : Dev nD) (s) : BI.Storable (upEmb : UEmb _ 𝕄) (amE (F := F) c s) := by unfold amE; infer_instance
instance amV_storable (q) (c : Dev nD) (s l) : BI.Storable (upEmb : UEmb _ 𝕄) (amV (F := F) q c s l) := by unfold amV; infer_instance

/-- The scalar places that travel with the first chunk leftwards: at step `s` those of the device that sent them first,
    from place `s` on. -/
def amX (d : Dev nD) (dir : Bool) (s : ℕ) (ch : Fin 4) : sProp 𝕄 :=
  if dir = false ∧ ch = 0 then bigSep (restA s) (fun o => amE (dev d (s + 1)) o.castSucc) else iprop(emp)
/-- The place that stays. -/
def amK (d : Dev nD) (dir : Bool) (h : Hop) : sProp 𝕄 :=
  if dir = false ∧ h.2 = 0 then amE (dev d (h.1.val + 1)) h.1.castSucc else iprop(emp)

omit [FloatOps F] in
instance amX_storable (d : Dev nD) (dir s ch) : BI.Storable (upEmb : UEmb _ 𝕄) (amX (F := F) d dir s ch) := by
  unfold amX; split <;> infer_instance

omit [FloatOps F] in
theorem amX_step (d : Dev nD) (dir : Bool) (s : Fin 7) (ch : Fin 4) :
    (amX d dir s.val ch : sProp 𝕄) ⊢ iprop(amK d dir (s, ch) ∗ amX (fwd dir d) dir (s.val + 1) ch) := by
  unfold amX amK
  by_cases h : dir = false ∧ ch = 0
  · rw [if_pos h, if_pos h, if_pos h, bigSep_restA, h.1]
    rw [show dev (fwd false d) (s.val + 1 + 1) = dev d (s.val + 1) from
      (dev_dev d _ _).trans (dev_mod d _ _ (by omega))]
  · rw [if_neg h, if_neg h, if_neg h]
    iintro -
    isplitl <;> iempintro

/-- The share of its place a device's `o`th copy reads, and what is left before it. -/
def shrRest : ℕ → PosShare TreeShare
  | 0 => fullShare
  | n + 1 => (shrRest n).right
def shr (o : ℕ) : PosShare TreeShare := (shrRest o).left

/-! ## The schedule -/

/-- What a barrier unit hands over: the neighbour's empty landing slots of the direction that sends to it. -/
def barPay (d : Dev nD) (dir : Bool) : sProp 𝕄 :=
  bigSep Finset.univ fun h : Hop => slotE (fwd dir d) dir h.1.castSucc h.2

def pay (d : Dev nD) : Option Cel → Bool → sProp 𝕄
  | some none, b => barPay d b
  | some (some (.inl (true, dir, s, ch))), _ => iprop(slotV d dir s.castSucc ch (acc m dir ch s.val (frm dir d)) ∗ amX d dir s.val ch)
  | some (some (.inl (false, dir, s, ch))), _ => slotE d dir (srcS s) ch
  | some (some (.inr (true, o))), _ => amV fullShare d o.castSucc (lm m (dev d (7 - o.val)))
  | some (some (.inr (false, o))), _ => amV (shr o.val) d 7 (lm m d)
  | none, _ => iprop(emp)
def amt : Option Cel → ℕ
  | some (some (.inl _)) => N
  | some (some (.inr _)) => NA
  | _ => 1
def dut : Option Cel → Finset Bool
  | some none => Finset.univ
  | some (some _) => {false}
  | none => ∅

instance barPay_storable (d : Dev nD) (b) : BI.Storable (upEmb : UEmb _ 𝕄) (barPay (F := F) d b) := by unfold barPay; infer_instance
instance pay_storable (d : Dev nD) (k b) : BI.Storable (upEmb : UEmb _ 𝕄) (pay m d k b) := by
  rcases k with _ | _ | ⟨_ | _, dir, s, ch⟩ | ⟨_ | _, o⟩ <;> dsimp only [pay] <;> infer_instance

def sched : Rounds.Schedule (GSem nD τ sig) Bool 𝕄 where
  duties g r := if r = 0 ∧ g.1.2 = .tc then dut (kindOf g.2) else ∅
  unitless _ := False
  amount g _ _ := amt (kindOf g.2)
  payload g _ d := pay m g.1.1 (kindOf g.2) d
  amount_pos g _ _ _ := by
    show 0 < amt (kindOf g.2)
    rcases kindOf g.2 with _ | _ | _ | _
    · exact Nat.one_pos
    · exact Nat.one_pos
    · exact N_pos
    · exact NA_pos

instance sched_storable (g : GSem nD τ sig) (r : ℕ) (d : Bool) : BI.Storable (upEmb : UEmb _ 𝕄) ((sched m).payload g r d) :=
  pay_storable m g.1.1 (kindOf g.2) d

theorem duties_cell (c : Dev nD) (k : Cel) : (sched m).duties (cell c k) 0 = dut (some k) := by
  show (if 0 = 0 ∧ Kind.tc = .tc then dut (kindOf (csem k)) else ∅) = _
  rw [if_pos ⟨rfl, rfl⟩, kindOf_csem]
theorem duties_later (g : GSem nD τ sig) : ∀ r, 1 ≤ r → (sched m).duties g r = ∅ := fun r hr => if_neg fun h => by omega
theorem amount_cell (c : Dev nD) (k : Cel) (d : Bool) : (sched m).amount (cell c k) 0 d = amt (some k) := by
  show amt (kindOf (csem k)) = _; rw [kindOf_csem]
theorem payload_cell (c : Dev nD) (k : Cel) (d : Bool) : (sched m).payload (cell c k) 0 d = pay m c (some k) d := by
  show pay m c (kindOf (csem k)) d = _; rw [kindOf_csem]
theorem expect_own (c : Dev nD) (k : Own) : (sched m).expect (cell c (some k)) 0 = amt (some (some k)) := by
  unfold Schedule.expect Schedule.amountOf
  rw [duties_cell]; show (Finset.sum {false} _) = _; rw [Finset.sum_singleton, amount_cell]
theorem expect_bar (c : Dev nD) : (sched m).expect (cell c none) 0 = 2 := by
  unfold Schedule.expect Schedule.amountOf
  rw [duties_cell, Finset.sum_congr rfl fun d _ => amount_cell m c none d]
  show (Finset.sum Finset.univ fun _ => 1) = 2
  rw [Finset.sum_const, Finset.card_univ, Fintype.card_bool]; rfl
theorem rest_own (c : Dev nD) (k : Own) :
    bigSep ((sched m).duties (cell c (some k)) 0 \ ∅) (fun d => (sched m).payload (cell c (some k)) 0 d) = pay m c (some (some k)) false := by
  rw [Finset.sdiff_empty, duties_cell]; show bigSep {false} _ = _; rw [bigSep_singleton, payload_cell]
theorem rest_bar (c : Dev nD) :
    bigSep ((sched m).duties (cell c none) 0 \ ∅) (fun d => (sched m).payload (cell c none) 0 d) = iprop(barPay c true ∗ barPay c false) := by
  rw [Finset.sdiff_empty, duties_cell]; show bigSep Finset.univ _ = _
  rw [bigSep_univ_eq_bigSepL [true, false] (by decide) (by decide), bigSepL_cons_cons, bigSepL_singleton, payload_cell, payload_cell]
  rfl

/-! ## What every device knows -/

/-- Every cell's invariant and that its round 0 is reached. -/
def records (K : Dev nD × Cel → ℕ) : sProp 𝕄 :=
  iprop((bigSep Finset.univ fun ck : Dev nD × Cel => cellInv ER (sched m) (K ck) (cell ck.1 ck.2))
    ∗ bigSep Finset.univ fun ck : Dev nD × Cel => reached ER (cell ck.1 ck.2) 0)
instance records_persistent (K : Dev nD × Cel → ℕ) : BI.Persistent (records m K) := by unfold records; infer_instance

theorem inv_at (K : Dev nD × Cel → ℕ) (c : Dev nD) (k : Cel) : records m K ⊢ cellInv ER (sched m) (K (c, k)) (cell c k) := by
  have h : (bigSep Finset.univ fun ck : Dev nD × Cel => (cellInv ER (sched m) (K ck) (cell ck.1 ck.2) : sProp 𝕄)) ⊢ cellInv ER (sched m) (K (c, k)) (cell c k) :=
    bigSep_elim (Finset.mem_univ (c, k))
  unfold records; iintro ⟨H, -⟩; iapply h; iexact H
theorem reached_at (K : Dev nD × Cel → ℕ) (c : Dev nD) (k : Cel) : records m K ⊢ reached ER (cell c k) 0 := by
  have h : (bigSep Finset.univ fun ck : Dev nD × Cel => (reached ER (cell ck.1 ck.2) 0 : sProp 𝕄)) ⊢ reached ER (cell c k) 0 :=
    bigSep_elim (Finset.mem_univ (c, k))
  unfold records; iintro ⟨-, H⟩; iapply h; iexact H

/-- The facts every step uses. -/
def Ctx (K : Dev nD × Cel → ℕ) : sProp 𝕄 := iprop(records m K ∗ levAts L lv)
instance ctx_persistent (K : Dev nD × Cel → ℕ) : BI.Persistent (Ctx m K) := by unfold Ctx; infer_instance

/-- What device `c` owes, its booked waits left open. -/
def OW (c : Dev nD) (O : CellTallies nD τ sig Unit) : sProp 𝕄 := iprop(∃ W, owes (c : Thread nD τ) O W)

/-- The two staged operands. -/
def XW (c : Dev nD) : sProp 𝕄 :=
  iprop((((c : Thread nD τ).loc cc0_stg0_0) ↦{fullShare} xs m c) ∗ (((c : Thread nD τ).loc cc0_stg1_0) ↦{fullShare} ws m c))

/-- A program of device `c` run to a postcondition. -/
abbrev WP (c : Dev nD) (p : P F) (Q : PUnit → sProp 𝕄) : sProp 𝕄 := wp frame (wpE (defs₀ (F := F)) 𝒱₀ (c : Thread nD τ) none) Set.univ p Q

end Cert.KernelIdeal.Ring

end
-- ==== Proof.Steps.lean ====
/-
# The steps of the two rings

One lemma per kind of step, at a symbolic device, direction, step and chunk.
-/
module

public import proofs.«01_k».proof.Proof.Protocol

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cel → ℕ)

/-! ## A slot as the transfers name it -/

theorem slotM_set (dir : Bool) (s : Fin 8) (ch : Fin 4) : (slotM dir s ch).view.set = ((ringM dir).access (slotR s ch)).set :=
  View.set_reshape _ _
theorem amM_set (s : Fin 8) : (amM s).view.set = (aM.access (amR s)).set := View.set_reshape _ _

omit [FloatOps F] in
/-- What is copied through one reshaping of two views of one shape reads the same through the views. -/
theorem read_copied {sg : RefSig} {κ κ' : Kind} {sp sp' : Space} {s s' : Shape} {e : EltTy} (v : View sg κ sp s e) (v' : View sg κ' sp' s e) (h : s'.numel = s.numel)
    (fs : v.ty.Contents (Elt F)) (fd : v'.ty.Contents (Elt F)) :
    v'.read (Elt F) ((v'.reshape s' h).write (Elt F) fd ((v.reshape s' h).read (Elt F) fs) Finset.univ) = v.read (Elt F) fs := by
  have he := View.read_write_univ (v := v'.reshape s' h) (Val := Elt F) fd ((v.reshape s' h).read (Elt F) fs)
  funext y
  have e' := congrFun he ((Shape.reshapeEquiv h).symm y)
  have r : ∀ (w : View sg κ' sp' s e) (g : w.ty.Contents (Elt F)), (w.reshape s' h).read (Elt F) g ((Shape.reshapeEquiv h).symm y) = w.read (Elt F) g y := by
    intro w g
    show w.read (Elt F) g (Shape.reshapeEquiv h ((Shape.reshapeEquiv h).symm y)) = _
    rw [Equiv.apply_symm_apply]
  have r' : (v.reshape s' h).read (Elt F) fs ((Shape.reshapeEquiv h).symm y) = v.read (Elt F) fs y := by
    show v.read (Elt F) fs (Shape.reshapeEquiv h ((Shape.reshapeEquiv h).symm y)) = _
    rw [Equiv.apply_symm_apply]
  exact ((r v' _).symm.trans e').trans r'

/-! ## Steps that compute -/

theorem wp_init (c : Dev nD) (dir : Bool) (ch : Fin 4) (off : Fin 2 → ℕ) (h : ∀ a, off a + S512x512.size a ≤ S4096x512.size a)
    (hoff : off = offs (blk dir 0 c)) (k : P F) (Q : PUnit → sProp 𝕄) :
    iprop(XW m c ∗ slotE c dir 7 ch ∗ (XW m c -∗ slotV c dir 7 ch (acc m dir ch 0 c) -∗ WP c k Q)) ⊢ WP c (initStep dir ch off h k) Q := by
  subst hoff
  unfold XW initStep slotE slotP slotV WP
  iintro ⟨⟨Hx, Hw⟩, ⟨%f, Hs⟩, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_rect 𝒱₀ (c : Thread nD τ) none Set.univ (m := ringM dir) (r := slotR 7 ch) (Finset.Subset.refl _)) $$ Hs; iintro Hs
  iapply (wp_store 𝒱₀ (c : Thread nD τ) none Set.univ (m := ringM dir) (r := slotR 7 ch) (Mk := Finset.univ) (S := ((ringM dir).access (slotR 7 ch)).set) (Finset.Subset.refl _)) $$ Hs; iintro Hs
  iapply Hk $$ [Hx Hw] [Hs]
  · isplitl [Hx] <;> iassumption
  · iexists (((ringM dir).access (slotR 7 ch)).write (Elt F) f (start0 (xb m c (blk dir 0 c)) (wb m c dir ch)) Finset.univ)
    isplitr
    · ipureintro; exact View.read_write_univ _ _
    · unfold slotP; iexact Hs

theorem wp_add (c : Dev nD) (dir : Bool) (s : Fin 7) (ch : Fin 4) (off : Fin 2 → ℕ) (h : ∀ a, off a + S512x512.size a ≤ S4096x512.size a)
    (hoff : off = offs (blk dir (s.val + 1) c)) (V : FVec F S1x1x512x256 .f32) (k : P F) (Q : PUnit → sProp 𝕄) :
    iprop(XW m c ∗ slotV c dir s.castSucc ch V ∗ (XW m c -∗ slotV c dir s.castSucc ch (addP V (xb m c (blk dir (s.val + 1) c)) (wb m c dir ch)) -∗ WP c k Q))
      ⊢ WP c (addStep dir s ch off h k) Q := by
  subst hoff
  unfold XW addStep slotV WP
  iintro ⟨⟨Hx, Hw⟩, ⟨%f, %hf, Hs⟩, Hk⟩
  subst hf
  unfold slotP
  iapply (wp_load_rect 𝒱₀ (c : Thread nD τ) none Set.univ (m := ringM dir) (r := slotR s.castSucc ch) (Finset.Subset.refl _)) $$ Hs; iintro Hs
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_rect 𝒱₀ (c : Thread nD τ) none Set.univ (m := ringM dir) (r := slotR s.castSucc ch) (Finset.Subset.refl _)) $$ Hs; iintro Hs
  iapply (wp_store 𝒱₀ (c : Thread nD τ) none Set.univ (m := ringM dir) (r := slotR s.castSucc ch) (Mk := Finset.univ) (S := ((ringM dir).access (slotR s.castSucc ch)).set) (Finset.Subset.refl _)) $$ Hs; iintro Hs
  iapply Hk $$ [Hx Hw] [Hs]
  · isplitl [Hx] <;> iassumption
  · iexists (((ringM dir).access (slotR s.castSucc ch)).write (Elt F) f (addP (((ringM dir).access (slotR s.castSucc ch)).read (Elt F) f) (xb m c (blk dir (s.val + 1) c)) (wb m c dir ch)) Finset.univ)
    isplitr
    · ipureintro; exact View.read_write_univ _ _
    · iexact Hs

/-! ## Transfers and waits -/

/-- A hop's transfer: the source slot is lent to the send's cell, the neighbour's landing slot and the travelling scalar
    places go to the receive's. -/
theorem wp_hopsend (c : Dev nD) (dir : Bool) (s : Fin 7) (ch : Fin 4) (dst : Dev nD) (hdst : dst = fwd dir c)
    (O : CellTallies nD τ sig Unit) (k : P F) (Q : PUnit → sProp 𝕄) :
    iprop(records m K ∗ slotV c dir (srcS s) ch (acc m dir ch s.val c) ∗ slotE (fwd dir c) dir s.castSucc ch ∗ amX (fwd dir c) dir s.val ch
        ∗ OW c (O + tallyAt (cell (fwd dir c) (kRcv dir s ch)) () N)
        ∗ dutyTok ER (cell c (kSnd dir s ch)) 0 false ∗ dutyTok ER (cell (fwd dir c) (kRcv dir s ch)) 0 false
        ∗ ((cred (tallyAt (cell c (kSnd dir s ch)) () N) ∗ OW c O) -∗ WP c k Q))
      ⊢ WP c (sendStep dir s ch dst k) Q := by
  subst hdst
  unfold sendStep slotV slotE OW WP
  iintro ⟨#HR, ⟨%fs, %hfs, Hs⟩, ⟨%fd, Hd⟩, HX, ⟨%W, HO⟩, Ht1, Ht2, Hk⟩
  unfold slotP
  have hp1 : (((slotM dir (srcS s) ch).view.loc (c : Thread nD τ) ↦[(slotM dir (srcS s) ch).view.set]{fullShare} fs : sProp 𝕄))
      ⊢ (sched m).payload (cell c (kSnd dir s ch)) 0 false := by
    rw [payload_cell, slotM_set]; dsimp only [pay]; unfold slotE slotP
    iintro H; iexists fs; iexact H
  have hp2 : iprop(((slotM dir s.castSucc ch).view.loc (fwd dir c : Thread nD τ) ↦[(slotM dir s.castSucc ch).view.set]{fullShare}
        ((slotM dir s.castSucc ch).view.write (Elt F) fd ((slotM dir (srcS s) ch).view.read (Elt F) fs) Finset.univ)) ∗ amX (fwd dir c) dir s.val ch)
      ⊢ (sched m).payload (cell (fwd dir c) (kRcv dir s ch)) 0 false := by
    rw [payload_cell, slotM_set]; dsimp only [pay]; unfold slotV slotP; rw [frm_fwd]
    iintro ⟨H, HX⟩
    isplitl [H]
    · iexists _
      isplitr [H]
      · ipureintro; exact (read_copied ((ringM dir).access (slotR (srcS s) ch)) ((ringM dir).access (slotR s.castSucc ch)) squeezes_S1x1x512x256_S512x256.numel_eq fs fd).trans hfs
      · iexact H
    · iexact HX
  iapply (Rounds.wp_send_pointsTo_with 𝒱₀ ER (sched m) (c : Thread nD τ) none (c' := (fwd dir c : Thread nD τ)) (κ₁ := K (c, kSnd dir s ch)) (κ₂ := K (fwd dir c, kRcv dir s ch))
    (sS := .dma (snd dir s ch)) (sem := .dma (rcv dir s ch)) (src := slotM dir (srcS s) ch) (dst := slotM dir s.castSucc ch) (fs := fs) (fd := fd) (F := amX (fwd dir c) dir s.val ch)
    (r₁ := 0) (r₂ := 0) (d₁ := false) (d₂ := false)
    (by show false ∈ (sched m).duties (cell c (kSnd dir s ch)) 0; rw [duties_cell]; exact Finset.mem_singleton_self _)
    (by show false ∈ (sched m).duties (cell (fwd dir c) (kRcv dir s ch)) 0; rw [duties_cell]; exact Finset.mem_singleton_self _)
    () () N (credit_slot _ _ _) (amount_cell m c (kSnd dir s ch) false) (amount_cell m (fwd dir c) (kRcv dir s ch) false) O rfl (W := W) hp1 hp2)
    $$ [Hs Hd HX HO Ht1 Ht2]
  · isplitr; · iapply (inv_at m K c (kSnd dir s ch)); iexact HR
    isplitr; · iapply (inv_at m K (fwd dir c) (kRcv dir s ch)); iexact HR
    isplitl [Hs]; · rw [slotM_set]; iexact Hs
    isplitl [Hd HX]
    · isplitl [Hd]; · rw [slotM_set]; iexact Hd
      iexact HX
    isplitl [HO]; · iexact HO
    isplitl [Ht1]; · iexact Ht1
    isplitr; · iapply (reached_at m K c (kSnd dir s ch)); iexact HR
    isplitl [Ht2]; · iexact Ht2
    iapply (reached_at m K (fwd dir c) (kRcv dir s ch)); iexact HR
  iintro ⟨Hc, HO⟩
  iapply Hk
  isplitl [Hc]; · iexact Hc
  iexists W; iexact HO

/-- The wait of one transfer's semaphore, the last use of its cell: what the round hands over, and the counter at zero. -/
theorem wp_dmaWait (c : Dev nD) (o : Own) (n : ℕ) (hn : amt (some (some o)) = n) (O : CellTallies nD τ sig Unit) (hO : (levAts L lv : sProp 𝕄) ⊢ MayWait (c : Thread nD τ) (osem o) () O)
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (osem o) n Kt)
    (k : P F) (Q : PUnit → sProp 𝕄) :
    iprop(Ctx m K ∗ cred (tallyAt (cell c (some o)) () n) ∗ OW c O ∗ atPos ER (cell c (some o)) 0 ∅ 0
        ∗ ((OW c O ∗ semVal (cell c (some o)) 0 ∗ pay m c (some (some o)) false) -∗ WP c k Q))
      ⊢ WP c (.op w fun _ => k) Q := by
  unfold Ctx OW WP
  iintro ⟨⟨#HR, #Hlev⟩, Hc, ⟨%W, HO⟩, Hat, Hk⟩
  iapply (Rounds.wp_wait_rest_token 𝒱₀ ER (sched m) (c : Thread nD τ) none (κ := K (c, some o)) hw (Set.mem_univ _) () (O := O) (W := W) (R := 0) (m := 0) (T := ∅)
      ((Nat.zero_add n).trans (hn.symm.trans (expect_own m c o).symm))) $$ [Hc HO Hat]
  · isplitr; · iapply (inv_at m K c (some o)); iexact HR
    isplitl [Hc]; · iexact Hc
    isplitl [HO]; · iexact HO
    isplitr; · iapply hO; iexact Hlev
    iexact Hat
  iintro ⟨HO, Hat, -, Hpay⟩
  have hro : bigSep ((sched m).duties ((c : Thread nD τ), osem o) 0 \ ∅) (fun d => (sched m).payload ((c : Thread nD τ), osem o) 0 d) ⊢ pay m c (some (some o)) false :=
    Entails.of_eq (rest_own m c o)
  ihave Hp := hro $$ Hpay
  imod (Rounds.cell_close ER (sched m) (Set.mem_univ (K (c, some o))) (fun h => h) (R := 0 + 1) (duties_later m (cell c (some o)))) $$ [Hat] with Hz
  · isplitr; · iapply (inv_at m K c (some o)); iexact HR
    iexact Hat
  iapply Hk
  isplitl [HO]; · iexists _; iexact HO
  isplitl [Hz]; · iexact Hz
  iexact Hp

theorem wp_hopwait (c : Dev nD) (dir : Bool) (s : Fin 7) (ch : Fin 4) (O : CellTallies nD τ sig Unit) (hO : Above (s.val + 2) O) (k : P F) (Q : PUnit → sProp 𝕄) :
    iprop(Ctx m K ∗ cred (tallyAt (cell c (kRcv dir s ch)) () N) ∗ OW c O ∗ atPos ER (cell c (kRcv dir s ch)) 0 ∅ 0
        ∗ ((OW c O ∗ semVal (cell c (kRcv dir s ch)) 0 ∗ slotV c dir s.castSucc ch (acc m dir ch s.val (frm dir c)) ∗ amX c dir s.val ch) -∗ WP c k Q))
      ⊢ WP c (waitStep dir s ch k) Q := by
  unfold waitStep
  refine (wp_dmaWait m K c (.inl (true, dir, s, ch)) N rfl O (mayWait (s.val + 2) hO (by rw [show ((c : Thread nD τ), osem (.inl (true, dir, s, ch))) = cell c (kRcv dir s ch) from rfl, lv_cell]; exact le_rfl))
    _ (fun Kt => (wpE_waitDma2_eq 𝒱₀ (c : Thread nD τ) none Set.univ Kt).trans (by rw [credit_slot]; rfl)) k Q)

end Cert.KernelIdeal.Ring

end
-- ==== Proof.Hops.lean ====
/-
# The two rings, hop by hop

What a device holds between two steps of the rings, and what each step makes of it.
-/
module

public import proofs.«01_k».proof.Proof.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cel → ℕ)

/-- What a device needs to send a hop: the duties of both its cells and the neighbour's landing slot. -/
def tok (c : Dev nD) (dir : Bool) (h : Hop) : sProp 𝕄 :=
  iprop(dutyTok ER (cell c (kSnd dir h.1 h.2)) 0 false ∗ dutyTok ER (cell (fwd dir c) (kRcv dir h.1 h.2)) 0 false ∗ slotE (fwd dir c) dir h.1.castSucc h.2)
/-- What it needs to wait for a hop's landing. -/
def wt (c : Dev nD) (dir : Bool) (h : Hop) : sProp 𝕄 :=
  iprop(atPos ER (cell c (kRcv dir h.1 h.2)) 0 ∅ 0 ∗ cred (tallyAt (cell c (kRcv dir h.1 h.2)) () N))
/-- What is left of a sent hop until its source is waited for. -/
def sent (c : Dev nD) (dir : Bool) (h : Hop) : sProp 𝕄 := cred (tallyAt (cell c (kSnd dir h.1 h.2)) () N)
/-- What is left of a landed hop. -/
def landed (c : Dev nD) (dir : Bool) (h : Hop) : sProp 𝕄 :=
  iprop(semVal (cell c (kRcv dir h.1 h.2)) 0 ∗ amK c dir h ∗ (if h.1 = 6 then slotE c dir 6 h.2 else iprop(emp)))

/-- One ring, `n` hops sent and `k` hops landed. -/
def Dir (c : Dev nD) (dir : Bool) (n k : ℕ) : sProp 𝕄 :=
  iprop(bigSep (rest n) (tok c dir) ∗ bigSep (rest k) (wt c dir) ∗ bigSep (done n) (sent c dir) ∗ bigSep (done k) (landed c dir))

/-- Both rings, `dir`'s first. -/
def St (c : Dev nD) (dir : Bool) (n k n' k' : ℕ) (R : sProp 𝕄) : sProp 𝕄 :=
  iprop(Ctx m K ∗ XW m c ∗ OW c (owD c dir n + (owD c (!dir) n' + owA c 0)) ∗ Dir c dir n k ∗ Dir c (!dir) n' k' ∗ R)

theorem st_swap (c : Dev nD) (dir : Bool) (n k n' k' : ℕ) (R : sProp 𝕄) : St m K c dir n k n' k' R ⊢ St m K c (!dir) n' k' n k R := by
  unfold St
  rw [Bool.not_not, add_left_comm]
  iintro ⟨HC, HX, HO, HD, HD', HR⟩
  isplitl [HC]; · iexact HC
  isplitl [HX]; · iexact HX
  isplitl [HO]; · iexact HO
  isplitl [HD']; · iexact HD'
  isplitl [HD]; · iexact HD
  iexact HR

theorem st_mono {R R' : sProp 𝕄} (h : R ⊢ R') (c : Dev nD) (dir : Bool) (n k n' k' : ℕ) : St m K c dir n k n' k' R ⊢ St m K c dir n k n' k' R' := by
  unfold St
  exact sep_mono_right (sep_mono_right (sep_mono_right (sep_mono_right (sep_mono_right h))))

/-- A first product and its transfer. -/
theorem init_send (c : Dev nD) (dir : Bool) (ch : Fin 4) (off : Fin 2 → ℕ) (h : ∀ a, off a + S512x512.size a ≤ S4096x512.size a) (hoff : off = offs (blk dir 0 c))
    (dst : Dev nD) (hdst : dst = fwd dir c) (n n' : ℕ) (hn : n = rank (0, ch)) (R : sProp 𝕄) (k : P F) (Q : PUnit → sProp 𝕄)
    (hk : St m K c (!dir) n' 0 (n + 1) 0 R ⊢ WP c k Q) :
    St m K c dir n 0 n' 0 iprop((slotE c dir 7 ch ∗ amX (fwd dir c) dir 0 ch) ∗ R) ⊢ WP c (initStep dir ch off h (sendStep dir 0 ch dst k)) Q := by
  refine BIBase.Entails.trans ?_ (wp_init m c dir ch off h hoff _ Q)
  subst hn
  unfold St Dir
  rw [bigSep_rest (0, ch) (tok c dir), owD_cons c dir (0, ch), add_right_comm]
  unfold Ctx
  iintro ⟨⟨#HR, #Hlev⟩, HX, HO, ⟨⟨Ht, Hr⟩, Hw, Hsn, Hl⟩, HD', ⟨Hs, HA⟩, HRR⟩
  isplitl [HX]; · iexact HX
  isplitl [Hs]; · iexact Hs
  iintro HX Hs
  unfold tok
  icases Ht with ⟨Ht1, Ht2, Hd⟩
  iapply (wp_hopsend m K c dir 0 ch dst hdst _ k Q)
  isplitr; · iexact HR
  isplitl [Hs]; · iexact Hs
  isplitl [Hd]; · iexact Hd
  isplitl [HA]; · iexact HA
  isplitl [HO]; · iexact HO
  isplitl [Ht1]; · iexact Ht1
  isplitl [Ht2]; · iexact Ht2
  iintro ⟨Hc, HO⟩
  iapply hk
  iapply (st_swap m K c dir (rank (0, ch) + 1) 0 n' 0 R)
  unfold St Dir
  isplitr
  · unfold Ctx; isplitr; · iexact HR
    iexact Hlev
  isplitl [HX]; · iexact HX
  isplitl [HO]; · iexact HO
  isplitl [Hr Hw Hsn Hl Hc]
  · isplitl [Hr]; · iexact Hr
    isplitl [Hw]; · iexact Hw
    isplitl [Hsn Hc]
    · rw [bigSep_done (0, ch) (sent c dir)]
      isplitl [Hc]; · unfold sent; iexact Hc
      iexact Hsn
    · iexact Hl
  isplitl [HD']; · iexact HD'
  iexact HRR

/-- A landing, the addition to it and its transfer onwards. -/
theorem hop_step (c : Dev nD) (dir : Bool) (s : Fin 7) (ch : Fin 4) (off : Fin 2 → ℕ) (h : ∀ a, off a + S512x512.size a ≤ S4096x512.size a)
    (hoff : off = offs (blk dir (s.val + 1) c)) (dst : Dev nD) (hdst : dst = fwd dir c) (t : Fin 7) (ht : t.val = s.val + 1)
    (n kk n' k' : ℕ) (hn : n = rank (t, ch)) (hkk : kk = rank (s, ch)) (hn' : n ≤ n' + 3 ∧ 4 * t.val ≤ n') (R : sProp 𝕄) (k : P F) (Q : PUnit → sProp 𝕄)
    (hk : St m K c (!dir) n' k' (n + 1) (kk + 1) R ⊢ WP c k Q) :
    St m K c dir n kk n' k' R ⊢ WP c (hopStep dir s ch off h dst t k) Q := by
  have hsrc : srcS t = s.castSucc := by
    have : ∀ s t : Fin 7, t.val = s.val + 1 → srcS t = s.castSucc := by decide
    exact this s t ht
  have hab : Above (s.val + 2) (owD c dir n + (owD c (!dir) n' + owA c 0)) := by
    refine above_add (above_owD c dir ?_) (above_add (above_owD c _ ?_) (above_owA c 0 ?_))
    · rw [hn]; unfold rank; dsimp only; omega
    · omega
    · omega
  refine BIBase.Entails.trans ?_ (wp_hopwait m K c dir s ch _ hab _ Q)
  subst hn hkk
  unfold St Dir
  rw [bigSep_rest (t, ch) (tok c dir), bigSep_rest (s, ch) (wt c dir)]
  iintro ⟨#HC, HX, HO, ⟨⟨Ht, Hr⟩, ⟨Hw, Hwr⟩, Hsn, Hl⟩, HD', HRR⟩
  unfold wt
  icases Hw with ⟨Hat, Hcr⟩
  isplitr; · iexact HC
  isplitl [Hcr]; · iexact Hcr
  isplitl [HO]; · iexact HO
  isplitl [Hat]; · iexact Hat
  iintro ⟨HO, Hz, Hs, HA⟩
  iapply (wp_add m c dir s ch off h hoff _ _ Q)
  isplitl [HX]; · iexact HX
  isplitl [Hs]; · iexact Hs
  iintro HX Hs
  ihave HA2 := (amX_step c dir s ch) $$ HA
  icases HA2 with ⟨HK, HA⟩
  unfold tok
  icases Ht with ⟨Ht1, Ht2, Hd⟩
  iapply (wp_hopsend m K c dir t ch dst hdst (owD c dir (rank (t, ch) + 1) + (owD c (!dir) n' + owA c 0)) k Q)
  rw [hsrc, ht, owD_cons c dir (t, ch), add_right_comm]
  isplitr
  · unfold Ctx; icases HC with ⟨HC1, -⟩; iexact HC1
  isplitl [Hs]; · iexact Hs
  isplitl [Hd]; · iexact Hd
  isplitl [HA]; · iexact HA
  isplitl [HO]; · iexact HO
  isplitl [Ht1]; · iexact Ht1
  isplitl [Ht2]; · iexact Ht2
  iintro ⟨Hc, HO⟩
  iapply hk
  iapply (st_swap m K c dir (rank (t, ch) + 1) (rank (s, ch) + 1) n' k' R)
  unfold St Dir
  isplitr; · iexact HC
  isplitl [HX]; · iexact HX
  isplitl [HO]; · iexact HO
  isplitl [Hr Hwr Hsn Hl Hc Hz HK]
  · isplitl [Hr]; · iexact Hr
    isplitl [Hwr]; · unfold wt; iexact Hwr
    isplitl [Hsn Hc]
    · rw [bigSep_done (t, ch) (sent c dir)]
      isplitl [Hc]; · unfold sent; iexact Hc
      iexact Hsn
    · rw [bigSep_done (s, ch) (landed c dir)]
      isplitl [Hz HK]
      · unfold landed
        rw [if_neg (show ¬ ((s, ch) : Hop).1 = 6 from fun h6 => by
          have : s = 6 := h6
          rw [this] at ht; have := t.isLt; omega)]
        isplitl [Hz]; · iexact Hz
        isplitl [HK]; · iexact HK
        iempintro
      · iexact Hl
  isplitl [HD']; · iexact HD'
  iexact HRR

/-! ## The last hops -/

/-- The result's buffer with the first `j` finished chunks in place. -/
def OutOk (c : Dev nD) (j : ℕ) : sProp 𝕄 :=
  iprop(∃ f : Buf (Elt F) ((c : Thread nD τ).loc cc0_stg2_0), ⌜∀ i, i < j → (oM.access (colR (dirOf i) (chOf i))).read (Elt F) f = fin m c (dirOf i) (chOf i)⌝
    ∗ (((c : Thread nD τ).loc cc0_stg2_0) ↦{fullShare} f))

theorem disj_cols {i j : ℕ} (hij : i < j) (hj : j < 8) : Disjoint (colR (dirOf i) (chOf i)).set (colR (dirOf j) (chOf j)).set := by
  have h : ∀ i j : Fin 8, i < j → col (dirOf i.val) (chOf i.val) + 256 ≤ col (dirOf j.val) (chOf j.val) ∨ col (dirOf j.val) (chOf j.val) + 256 ≤ col (dirOf i.val) (chOf i.val) := by decide
  exact Rect.unit_disjoint (s := S512x2048) 1 (h ⟨i, hij.trans hj⟩ ⟨j, hj⟩ hij)

theorem wp_last (c : Dev nD) (dir : Bool) (ch : Fin 4) (off : Fin 2 → ℕ) (h : ∀ a, off a + S512x512.size a ≤ S4096x512.size a)
    (hoff : off = offs (blk dir 7 c)) (j : ℕ) (hj : j < 8) (hd : dir = dirOf j) (hc : ch = chOf j) (l : F .f32) (hl : l = lmax m c j) (k : F .f32 → P F) (Q : PUnit → sProp 𝕄) :
    iprop(XW m c ∗ slotV c dir 6 ch (acc m dir ch 6 (frm dir c)) ∗ OutOk m c j ∗ ((XW m c ∗ slotE c dir 6 ch ∗ OutOk m c (j + 1)) -∗ WP c (k (lmax m c (j + 1))) Q))
      ⊢ WP c (lastStep dir ch off h l k) Q := by
  subst hoff hl
  unfold XW lastStep slotV OutOk WP
  iintro ⟨⟨Hx, Hw⟩, ⟨%f, %hf, Hs⟩, ⟨%g, %hg, Hg⟩, Hk⟩
  unfold slotP
  iapply (wp_load_rect 𝒱₀ (c : Thread nD τ) none Set.univ (m := ringM dir) (r := slotR 6 ch) (Finset.Subset.refl _)) $$ Hs; iintro Hs
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Hg; iintro Hg
  iapply (wp_store 𝒱₀ (c : Thread nD τ) none Set.univ (m := oM) (r := colR dir ch) (Mk := Finset.univ) (S := Finset.univ) (Finset.subset_univ _)) $$ Hg; iintro Hg
  rw [hf]
  have hmax : lmax m c (j + 1) = maxP (lmax m c j) (acc m dir ch 6 (frm dir c)) (xb m c (blk dir 7 c)) (wb m c dir ch) := by rw [hd, hc]; rfl
  rw [hmax]
  iapply Hk
  isplitl [Hx Hw]
  · isplitl [Hx] <;> iassumption
  isplitl [Hs]
  · unfold slotE slotP; iexists f; iexact Hs
  iexists ((oM.access (colR dir ch)).write (Elt F) g (fin m c dir ch) Finset.univ)
  isplitr
  · ipureintro
    intro i hi
    rcases Nat.lt_succ_iff_lt_or_eq.mp hi with hi | rfl
    · refine Eq.trans ?_ (hg i hi)
      refine View.read_slice_write_slice_of_disjoint (v := oM.view) _ _ _ _ _ ?_
      rw [hd, hc, View.setOn_univ, View.set_slice, View.set_slice]
      exact (Finset.disjoint_map oM.view.emb).mpr (disj_cols hi hj)
    · rw [hd, hc]; exact View.read_write_univ _ _
  · iexact Hg

theorem last_step (c : Dev nD) (dir : Bool) (ch : Fin 4) (off : Fin 2 → ℕ) (h : ∀ a, off a + S512x512.size a ≤ S4096x512.size a)
    (hoff : off = offs (blk dir 7 c)) (j : ℕ) (hj : j < 8) (hd : dir = dirOf j) (hc : ch = chOf j) (l : F .f32) (hl : l = lmax m c j)
    (kk k' : ℕ) (hkk : kk = rank (6, ch)) (R : sProp 𝕄) (k : F .f32 → P F) (Q : PUnit → sProp 𝕄)
    (hk : St m K c (!dir) 28 k' 28 (kk + 1) iprop(OutOk m c (j + 1) ∗ R) ⊢ WP c (k (lmax m c (j + 1))) Q) :
    St m K c dir 28 kk 28 k' iprop(OutOk m c j ∗ R) ⊢ WP c (waitStep dir 6 ch (lastStep dir ch off h l k)) Q := by
  have hab : Above (6 + 2) (owD c dir 28 + (owD c (!dir) 28 + owA c 0)) :=
    above_add (above_owD c dir (by omega)) (above_add (above_owD c _ (by omega)) (above_owA c 0 (by omega)))
  refine BIBase.Entails.trans ?_ (wp_hopwait m K c dir 6 ch _ hab _ Q)
  subst hkk
  unfold St Dir
  rw [bigSep_rest (6, ch) (wt c dir)]
  iintro ⟨#HC, HX, HO, ⟨Hr, ⟨Hw, Hwr⟩, Hsn, Hl⟩, HD', Hout, HRR⟩
  unfold wt
  icases Hw with ⟨Hat, Hcr⟩
  isplitr; · iexact HC
  isplitl [Hcr]; · iexact Hcr
  isplitl [HO]; · iexact HO
  isplitl [Hat]; · iexact Hat
  iintro ⟨HO, Hz, Hs, HA⟩
  iapply (wp_last m c dir ch off h hoff j hj hd hc l hl _ Q)
  isplitl [HX]; · iexact HX
  isplitl [Hs]; · iexact Hs
  isplitl [Hout]; · iexact Hout
  iintro ⟨HX, Hs, Hout⟩
  ihave HA2 := (amX_step c dir 6 ch) $$ HA
  icases HA2 with ⟨HK, -⟩
  iapply hk
  iapply (st_swap m K c dir 28 (rank (6, ch) + 1) 28 k' iprop(OutOk m c (j + 1) ∗ R))
  unfold St Dir
  isplitr; · iexact HC
  isplitl [HX]; · iexact HX
  isplitl [HO]; · iexact HO
  isplitl [Hr Hwr Hsn Hl Hz HK Hs]
  · isplitl [Hr]; · iexact Hr
    isplitl [Hwr]; · unfold wt; iexact Hwr
    isplitl [Hsn]; · iexact Hsn
    rw [bigSep_done (6, ch) (landed c dir)]
    isplitl [Hz HK Hs]
    · unfold landed
      rw [if_pos (show ((6, ch) : Hop).1 = 6 from rfl)]
      isplitl [Hz]; · iexact Hz
      isplitl [HK]; · iexact HK
      iexact Hs
    · iexact Hl
  isplitl [HD']; · iexact HD'
  isplitl [Hout]; · iexact Hout
  iexact HRR

end Cert.KernelIdeal.Ring

end
-- ==== Proof.Scalars.lean ====
/-
# The scalars

Each device's largest value to the seven others, the quantisation, and the last waits.
-/
module

public import proofs.«01_k».proof.Proof.Hops

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cel → ℕ)

/-- What a device needs to send its largest value to the device `o + 1` places on. -/
def atok (c : Dev nD) (o : Fin 7) : sProp 𝕄 :=
  iprop(dutyTok ER (cell c (kAsnd o)) 0 false ∗ dutyTok ER (cell (dev c (o.val + 1)) (kArcv o)) 0 false ∗ amE (dev c (o.val + 1)) o.castSucc)
def awt (c : Dev nD) (o : Fin 7) : sProp 𝕄 := iprop(atPos ER (cell c (kArcv o)) 0 ∅ 0 ∗ cred (tallyAt (cell c (kArcv o)) () NA))
def asent (c : Dev nD) (o : Fin 7) : sProp 𝕄 := cred (tallyAt (cell c (kAsnd o)) () NA)
/-- A landed scalar. -/
def agot (c : Dev nD) (o : Fin 7) : sProp 𝕄 := iprop(semVal (cell c (kArcv o)) 0 ∗ amV fullShare c o.castSucc (lm m (dev c (7 - o.val))))

/-- `n` scalars sent and `a` landed. -/
def AS (c : Dev nD) (n a : ℕ) (R : sProp 𝕄) : sProp 𝕄 :=
  iprop(Ctx m K ∗ OW c (owA c n) ∗ amV (shrRest n) c 7 (lm m c) ∗ bigSep (restA n) (atok c) ∗ bigSep (doneA n) (asent c)
    ∗ bigSep (restA a) (awt c) ∗ bigSep (doneA a) (agot m c) ∗ R)

theorem wp_amStore (c : Dev nD) (l : F .f32) (k : P F) (Q : PUnit → sProp 𝕄) :
    iprop(amE c 7 ∗ (amV fullShare c 7 l -∗ WP c k Q)) ⊢ WP c (amStore l k) Q := by
  unfold amStore amE amV amP WP
  iintro ⟨⟨%f, Hs⟩, Hk⟩
  iapply (wp_load_rect 𝒱₀ (c : Thread nD τ) none Set.univ (m := aM) (r := amR 7) (S := (aM.access (amR 7)).set) (Finset.Subset.refl _)) $$ Hs; iintro Hs
  iapply (wp_store 𝒱₀ (c : Thread nD τ) none Set.univ (m := aM) (r := amR 7) (Mk := Finset.univ) (S := (aM.access (amR 7)).set) (Finset.Subset.refl _)) $$ Hs; iintro Hs
  iapply Hk
  iexists ((aM.access (amR 7)).write (Elt F) f (fillP l) Finset.univ)
  isplitr
  · ipureintro; exact (View.read_write_univ _ _).trans rfl
  · iexact Hs

theorem amV_split (c : Dev nD) (o : ℕ) (l : F .f32) : (amV (shrRest o) c 7 l : sProp 𝕄) ⊢ iprop(amV (shr o) c 7 l ∗ amV (shrRest (o + 1)) c 7 l) := by
  unfold amV amP
  iintro ⟨%f, %hf, H⟩
  ihave H2 := (pointsTo_share (PosShare.mem_left_op_right (shrRest o))).1 $$ H
  icases H2 with ⟨H1, H2⟩
  isplitl [H1]
  · iexists f; isplitr; · ipureintro; exact hf
    iexact H1
  · iexists f; isplitr; · ipureintro; exact hf
    iexact H2

theorem am_send (c : Dev nD) (o : Fin 7) (dst : Dev nD) (hdst : dst = dev c (o.val + 1)) (n : ℕ) (hn : n = o.val) (R : sProp 𝕄) (k : P F) (Q : PUnit → sProp 𝕄)
    (hk : AS m K c (n + 1) 0 R ⊢ WP c k Q) : AS m K c n 0 R ⊢ WP c (amSend o dst k) Q := by
  subst hdst hn
  refine BIBase.Entails.trans ?_ (show iprop(AS m K c o.val 0 R ∗ emp) ⊢ WP c (amSend o (dev c (o.val + 1)) k) Q from ?_)
  · iintro H; isplitl [H]; · iexact H
    iempintro
  unfold AS
  rw [bigSep_restA o (atok c), owA_cons]
  iintro ⟨⟨#HC, HO, Hv, ⟨Ht, Hr⟩, Hsn, Hw, Hg, HRR⟩, -⟩
  ihave Hv2 := (amV_split c o.val (lm m c)) $$ Hv
  icases Hv2 with ⟨Hv, Hvr⟩
  unfold atok
  icases Ht with ⟨Ht1, Ht2, Hd⟩
  have hp1 : ∀ fs : Buf (Elt F) ((c : Thread nD τ).loc cc0_scratch2), (aM.access (amR 7)).read (Elt F) fs = (fun _ => lm m c : FVec F S1x1x128 .f32) →
      (((amM 7).view.loc (c : Thread nD τ) ↦[(amM 7).view.set]{shr o.val} fs : sProp 𝕄)) ⊢ (sched m).payload (cell c (kAsnd o)) 0 false := by
    intro fs hfs
    rw [payload_cell, amM_set]; dsimp only [pay]; unfold amV amP
    iintro H; iexists fs
    isplitr; · ipureintro; exact hfs
    iexact H
  have hp2 : ∀ fs : Buf (Elt F) ((c : Thread nD τ).loc cc0_scratch2), (aM.access (amR 7)).read (Elt F) fs = (fun _ => lm m c : FVec F S1x1x128 .f32) →
      ∀ fd : Buf (Elt F) ((dev c (o.val + 1) : Thread nD τ).loc cc0_scratch2),
      ((amM o.castSucc).view.loc (dev c (o.val + 1) : Thread nD τ) ↦[(amM o.castSucc).view.set]{fullShare}
        ((amM o.castSucc).view.write (Elt F) fd ((amM 7).view.read (Elt F) fs) Finset.univ) : sProp 𝕄)
      ⊢ (sched m).payload (cell (dev c (o.val + 1)) (kArcv o)) 0 false := by
    intro fs hfs fd
    rw [payload_cell, amM_set]; dsimp only [pay]; unfold amV amP
    rw [dev_dev, dev_mod c (o.val + 1 + (7 - o.val)) 8 (by omega), dev_eight]
    iintro H
    iexists _
    isplitr [H]
    · ipureintro; exact (read_copied (aM.access (amR 7)) (aM.access (amR o.castSucc)) squeezes_S1x1x128_S1x128.numel_eq fs fd).trans hfs
    · iexact H
  unfold amSend OW amE WP
  icases HO with ⟨%W, HO⟩
  icases Hd with ⟨%fd, Hd⟩
  unfold amV amP
  icases Hv with ⟨%fs, %hfs, Hv⟩
  unfold Ctx
  icases HC with ⟨#HR, #Hlev⟩
  iapply (Rounds.wp_send_pointsTo 𝒱₀ ER (sched m) (c : Thread nD τ) none (c' := (dev c (o.val + 1) : Thread nD τ)) (κ₁ := K (c, kAsnd o)) (κ₂ := K (dev c (o.val + 1), kArcv o))
    (sS := .dma (asnd o)) (sem := .dma (arcv o)) (src := amM 7) (dst := amM o.castSucc) (fs := fs) (fd := fd)
    (r₁ := 0) (r₂ := 0) (d₁ := false) (d₂ := false)
    (by show false ∈ (sched m).duties (cell c (kAsnd o)) 0; rw [duties_cell]; exact Finset.mem_singleton_self _)
    (by show false ∈ (sched m).duties (cell (dev c (o.val + 1)) (kArcv o)) 0; rw [duties_cell]; exact Finset.mem_singleton_self _)
    () () NA (credit_am _) (amount_cell m c (kAsnd o) false) (amount_cell m (dev c (o.val + 1)) (kArcv o) false) (owA c (o.val + 1)) rfl (W := W) (hp1 fs hfs) (hp2 fs hfs fd))
    $$ [Hv Hd HO Ht1 Ht2]
  · isplitr; · iapply (inv_at m K c (kAsnd o)); iexact HR
    isplitr; · iapply (inv_at m K (dev c (o.val + 1)) (kArcv o)); iexact HR
    isplitl [Hv]; · rw [amM_set]; iexact Hv
    isplitl [Hd]; · rw [amM_set]; iexact Hd
    isplitl [HO]; · iexact HO
    isplitl [Ht1]; · iexact Ht1
    isplitr; · iapply (reached_at m K c (kAsnd o)); iexact HR
    isplitl [Ht2]; · iexact Ht2
    iapply (reached_at m K (dev c (o.val + 1)) (kArcv o)); iexact HR
  iintro ⟨Hc, HO⟩
  iapply hk
  unfold AS
  isplitr
  · unfold Ctx; isplitr; · iexact HR
    iexact Hlev
  isplitl [HO]; · unfold OW; iexists W; iexact HO
  isplitl [Hvr]; · unfold amV amP; iexact Hvr
  isplitl [Hr]; · unfold atok amE amP; iexact Hr
  isplitl [Hsn Hc]
  · rw [bigSep_doneA o (asent c)]
    isplitl [Hc]; · unfold asent; iexact Hc
    iexact Hsn
  isplitl [Hw]; · iexact Hw
  isplitl [Hg]; · iexact Hg
  iexact HRR

theorem pay_arcv (c : Dev nD) (o : Fin 7) : pay m c (some (some (.inr (true, o)))) false = amV fullShare c o.castSucc (lm m (dev c (7 - o.val))) := rfl
theorem pay_asnd (c : Dev nD) (o : Fin 7) : pay m c (some (some (.inr (false, o)))) false = amV (shr o.val) c 7 (lm m c) := rfl
theorem pay_snd (c : Dev nD) (dir : Bool) (s : Fin 7) (ch : Fin 4) : pay m c (some (some (.inl (false, dir, s, ch)))) false = slotE c dir (srcS s) ch := rfl

theorem above_zero (b : ℕ) : Above b 0 := fun g u h => absurd h (lt_irrefl _)

theorem am_wait (c : Dev nD) (o : Fin 7) (a : ℕ) (ha : a = o.val) (R : sProp 𝕄) (k : P F) (Q : PUnit → sProp 𝕄)
    (hk : AS m K c 7 (a + 1) R ⊢ WP c k Q) : AS m K c 7 a R ⊢ WP c (amWait o k) Q := by
  subst ha
  unfold amWait
  refine BIBase.Entails.trans ?_ (wp_dmaWait m K c (.inr (true, o)) NA rfl (owA c 7) (mayWait 20 (by rw [owA_all]; exact above_zero 20)
    (by rw [show ((c : Thread nD τ), osem (.inr (true, o))) = cell c (kArcv o) from rfl, lv_cell]; exact le_rfl))
    _ (fun Kt => (wpE_waitDma2_eq 𝒱₀ (c : Thread nD τ) none Set.univ Kt).trans (by rw [credit_am]; rfl)) k Q)
  unfold AS
  rw [bigSep_restA o (awt c)]
  iintro ⟨#HC, HO, Hv, Ht, Hsn, ⟨Hw, Hwr⟩, Hg, HRR⟩
  unfold awt
  icases Hw with ⟨Hat, Hcr⟩
  isplitr; · iexact HC
  isplitl [Hcr]; · iexact Hcr
  isplitl [HO]; · iexact HO
  isplitl [Hat]; · iexact Hat
  iintro ⟨HO, Hz, Hp⟩
  iapply hk
  unfold AS
  isplitr; · iexact HC
  isplitl [HO]; · iexact HO
  isplitl [Hv]; · iexact Hv
  isplitl [Ht]; · iexact Ht
  isplitl [Hsn]; · iexact Hsn
  isplitl [Hwr]; · unfold awt; iexact Hwr
  isplitl [Hg Hz Hp]
  · rw [bigSep_doneA o (agot m c)]
    isplitl [Hz Hp]
    · unfold agot
      isplitl [Hz]; · iexact Hz
      iapply (Entails.of_eq (pay_arcv m c o)); iexact Hp
    · iexact Hg
  iexact HRR

/-! ## The last waits -/

def swt (c : Dev nD) (dir : Bool) (h : Hop) : sProp 𝕄 := iprop(atPos ER (cell c (kSnd dir h.1 h.2)) 0 ∅ 0 ∗ sent c dir h)
def sgot (c : Dev nD) (dir : Bool) (h : Hop) : sProp 𝕄 := iprop(semVal (cell c (kSnd dir h.1 h.2)) 0 ∗ slotE c dir (srcS h.1) h.2)
/-- One ring's sources, `n` of them back. -/
def SS (c : Dev nD) (dir : Bool) (n : ℕ) (R : sProp 𝕄) : sProp 𝕄 :=
  iprop(Ctx m K ∗ OW c 0 ∗ bigSep (rest n) (swt c dir) ∗ bigSep (done n) (sgot c dir) ∗ R)

theorem sent_step (c : Dev nD) (dir : Bool) (s : Fin 7) (ch : Fin 4) (n : ℕ) (hn : n = rank (s, ch)) (R : sProp 𝕄) (k : P F) (Q : PUnit → sProp 𝕄)
    (hk : SS m K c dir (n + 1) R ⊢ WP c k Q) : SS m K c dir n R ⊢ WP c (sentStep dir s ch k) Q := by
  subst hn
  unfold sentStep
  refine BIBase.Entails.trans ?_ (wp_dmaWait m K c (.inl (false, dir, s, ch)) N rfl 0 (mayWait 20 (above_zero 20)
    (by rw [show ((c : Thread nD τ), osem (.inl (false, dir, s, ch))) = cell c (kSnd dir s ch) from rfl, lv_cell]; exact Nat.zero_le _))
    _ (fun Kt => (wpE_waitDma2_eq 𝒱₀ (c : Thread nD τ) none Set.univ Kt).trans (by rw [credit_slot]; rfl)) k Q)
  unfold SS
  rw [bigSep_rest (s, ch) (swt c dir)]
  iintro ⟨#HC, HO, ⟨Hw, Hwr⟩, Hg, HRR⟩
  unfold swt
  icases Hw with ⟨Hat, Hcr⟩
  isplitr; · iexact HC
  isplitl [Hcr]; · unfold sent; iexact Hcr
  isplitl [HO]; · iexact HO
  isplitl [Hat]; · iexact Hat
  iintro ⟨HO, Hz, Hp⟩
  iapply hk
  unfold SS
  isplitr; · iexact HC
  isplitl [HO]; · iexact HO
  isplitl [Hwr]; · unfold swt; iexact Hwr
  isplitl [Hg Hz Hp]
  · rw [bigSep_done (s, ch) (sgot c dir)]
    isplitl [Hz Hp]
    · unfold sgot
      isplitl [Hz]; · iexact Hz
      iapply (Entails.of_eq (pay_snd m c dir s ch)); iexact Hp
    · iexact Hg
  iexact HRR

def aswt (c : Dev nD) (o : Fin 7) : sProp 𝕄 := iprop(atPos ER (cell c (kAsnd o)) 0 ∅ 0 ∗ asent c o)
def asgot (c : Dev nD) (o : Fin 7) : sProp 𝕄 := iprop(semVal (cell c (kAsnd o)) 0 ∗ amV (shr o.val) c 7 (lm m c))
def AA (c : Dev nD) (n : ℕ) (R : sProp 𝕄) : sProp 𝕄 :=
  iprop(Ctx m K ∗ OW c 0 ∗ bigSep (restA n) (aswt c) ∗ bigSep (doneA n) (asgot m c) ∗ R)

theorem am_sent (c : Dev nD) (o : Fin 7) (n : ℕ) (hn : n = o.val) (R : sProp 𝕄) (k : P F) (Q : PUnit → sProp 𝕄)
    (hk : AA m K c (n + 1) R ⊢ WP c k Q) : AA m K c n R ⊢ WP c (amSent o k) Q := by
  subst hn
  unfold amSent
  refine BIBase.Entails.trans ?_ (wp_dmaWait m K c (.inr (false, o)) NA rfl 0 (mayWait 20 (above_zero 20)
    (by rw [show ((c : Thread nD τ), osem (.inr (false, o))) = cell c (kAsnd o) from rfl, lv_cell]; exact Nat.zero_le _))
    _ (fun Kt => (wpE_waitDma2_eq 𝒱₀ (c : Thread nD τ) none Set.univ Kt).trans (by rw [credit_am]; rfl)) k Q)
  unfold AA
  rw [bigSep_restA o (aswt c)]
  iintro ⟨#HC, HO, ⟨Hw, Hwr⟩, Hg, HRR⟩
  unfold aswt
  icases Hw with ⟨Hat, Hcr⟩
  isplitr; · iexact HC
  isplitl [Hcr]; · unfold asent; iexact Hcr
  isplitl [HO]; · iexact HO
  isplitl [Hat]; · iexact Hat
  iintro ⟨HO, Hz, Hp⟩
  iapply hk
  unfold AA
  isplitr; · iexact HC
  isplitl [HO]; · iexact HO
  isplitl [Hwr]; · unfold aswt; iexact Hwr
  isplitl [Hg Hz Hp]
  · rw [bigSep_doneA o (asgot m c)]
    isplitl [Hz Hp]
    · unfold asgot
      isplitl [Hz]; · iexact Hz
      iapply (Entails.of_eq (pay_asnd m c o)); iexact Hp
    · iexact Hg
  iexact HRR

end Cert.KernelIdeal.Ring

end
-- ==== Proof.Quant.lean ====
/-
# The quantisation step

The finished chunks read as one array, and the value stored from it.
-/
module

public import proofs.«01_k».proof.Proof.Scalars
public import Idealize.ShloMosaic.Lib.ValueIdxCore
public import Idealize.ShloMosaic.Lib.Pipeline.ValueKit.Geometry

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cel → ℕ)

/-- Direction and chunk of a column. -/
def colDir (q : Fin 2048) : Bool := decide (q.val < 1024)
def colCh (q : Fin 2048) : Fin 4 := ⟨q.val / 256 % 4, Nat.mod_lt _ (by decide)⟩
def colIn (q : Fin 2048) : Fin 256 := ⟨q.val % 256, Nat.mod_lt _ (by decide)⟩

/-- The clipped product of a device's rows, from its eight finished chunks. -/
def outV (c : Dev nD) : FVec F S512x2048 .f32 := fun i =>
  fin m c (colDir (i 1)) (colCh (i 1)) (ValueIdx.ix2 (n0 := 512) (n1 := 256) (i 0) (colIn (i 1)))

/-- What device `c` stores in the end. -/
def resV (c : Dev nD) : FVec F S512x2048 .f32 :=
  quantP (lm m c) (fun _ => lm m (dev c 7)) (fun _ => lm m (dev c 6)) (fun _ => lm m (dev c 5)) (fun _ => lm m (dev c 4))
    (fun _ => lm m (dev c 3)) (fun _ => lm m (dev c 2)) (fun _ => lm m (dev c 1)) (outV m c)

theorem col_split (q : Fin 2048) : ∃ i < 8, dirOf i = colDir q ∧ chOf i = colCh q ∧ q.val = col (colDir q) (colCh q) + (colIn q).val := by
  have hq := q.isLt
  unfold colDir colCh colIn dirOf chOf col
  by_cases h : q.val < 1024
  · refine ⟨2 * (q.val / 256), by omega, ?_, ?_, ?_⟩
    · rw [decide_eq_true h]; exact decide_eq_true (by omega)
    · exact Fin.ext (by show 2 * (q.val / 256) / 2 % 4 = q.val / 256 % 4; omega)
    · rw [decide_eq_true h]; show q.val = 256 * (q.val / 256 % 4) + q.val % 256; omega
  · refine ⟨2 * (q.val / 256 - 4) + 1, by omega, ?_, ?_, ?_⟩
    · rw [decide_eq_false h]; exact decide_eq_false (by omega)
    · exact Fin.ext (by show (2 * (q.val / 256 - 4) + 1) / 2 % 4 = q.val / 256 % 4; omega)
    · rw [decide_eq_false h]; show q.val = 1024 + 256 * (q.val / 256 % 4) + q.val % 256; omega

theorem out_eq (c : Dev nD) (f : Buf (Elt F) ((c : Thread nD τ).loc cc0_stg2_0))
    (h : ∀ i, i < 8 → (oM.access (colR (dirOf i) (chOf i))).read (Elt F) f = fin m c (dirOf i) (chOf i)) : f = outV m c := by
  funext y
  obtain ⟨i, hi, hd, hc, hv⟩ := col_split (y 1)
  have h' := congrFun (h i hi) (ValueIdx.ix2 (n0 := 512) (n1 := 256) (y 0) (colIn (y 1)))
  rw [hd, hc] at h'
  refine Eq.trans ?_ h'
  show f y = f ((colR (colDir (y 1)) (colCh (y 1))).emb _)
  congr 1
  funext a
  refine Fin.ext ?_
  rw [ValueKit.rect_emb_unit_val]
  match a with
  | ⟨0, _⟩ => exact (Nat.zero_add _).symm
  | ⟨1, _⟩ => exact hv

omit [FloatOps F] in
theorem seven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  simp only [bigSepL_cons_cons, bigSepL_singleton]
  rfl

theorem agot_all (c : Dev nD) : bigSep Finset.univ (agot m c) =
    iprop((semVal (cell c (kArcv 0)) 0 ∗ amV fullShare c 0 (lm m (dev c 7))) ∗ (semVal (cell c (kArcv 1)) 0 ∗ amV fullShare c 1 (lm m (dev c 6))) ∗ (semVal (cell c (kArcv 2)) 0 ∗ amV fullShare c 2 (lm m (dev c 5))) ∗ (semVal (cell c (kArcv 3)) 0 ∗ amV fullShare c 3 (lm m (dev c 4))) ∗ (semVal (cell c (kArcv 4)) 0 ∗ amV fullShare c 4 (lm m (dev c 3))) ∗ (semVal (cell c (kArcv 5)) 0 ∗ amV fullShare c 5 (lm m (dev c 2))) ∗ (semVal (cell c (kArcv 6)) 0 ∗ amV fullShare c 6 (lm m (dev c 1)))) :=
  (seven _).trans rfl

theorem wp_quant (c : Dev nD) (k : P F) (Q : PUnit → sProp 𝕄) :
    iprop(bigSep (doneA 7) (agot m c) ∗ OutOk m c 8
        ∗ ((bigSep (doneA 7) (agot m c) ∗ (((c : Thread nD τ).loc cc0_stg2_0) ↦{fullShare} resV m c)) -∗ WP c k Q))
      ⊢ WP c (quantStep (lm m c) k) Q := by
  rw [doneA_all, agot_all]
  unfold amV amP OutOk quantStep WP
  iintro ⟨⟨⟨Hz0, %f0, %h0, H0⟩, ⟨Hz1, %f1, %h1, H1⟩, ⟨Hz2, %f2, %h2, H2⟩, ⟨Hz3, %f3, %h3, H3⟩, ⟨Hz4, %f4, %h4, H4⟩, ⟨Hz5, %f5, %h5, H5⟩, Hz6, %f6, %h6, H6⟩, ⟨%g, %hg, Hg⟩, Hk⟩
  iapply (wp_load_rect 𝒱₀ (c : Thread nD τ) none Set.univ (m := aM) (r := amR 0) (S := (aM.access (amR 0)).set) (Finset.Subset.refl _)) $$ H0; iintro H0
  iapply (wp_load_rect 𝒱₀ (c : Thread nD τ) none Set.univ (m := aM) (r := amR 1) (S := (aM.access (amR 1)).set) (Finset.Subset.refl _)) $$ H1; iintro H1
  iapply (wp_load_rect 𝒱₀ (c : Thread nD τ) none Set.univ (m := aM) (r := amR 2) (S := (aM.access (amR 2)).set) (Finset.Subset.refl _)) $$ H2; iintro H2
  iapply (wp_load_rect 𝒱₀ (c : Thread nD τ) none Set.univ (m := aM) (r := amR 3) (S := (aM.access (amR 3)).set) (Finset.Subset.refl _)) $$ H3; iintro H3
  iapply (wp_load_rect 𝒱₀ (c : Thread nD τ) none Set.univ (m := aM) (r := amR 4) (S := (aM.access (amR 4)).set) (Finset.Subset.refl _)) $$ H4; iintro H4
  iapply (wp_load_rect 𝒱₀ (c : Thread nD τ) none Set.univ (m := aM) (r := amR 5) (S := (aM.access (amR 5)).set) (Finset.Subset.refl _)) $$ H5; iintro H5
  iapply (wp_load_rect 𝒱₀ (c : Thread nD τ) none Set.univ (m := aM) (r := amR 6) (S := (aM.access (amR 6)).set) (Finset.Subset.refl _)) $$ H6; iintro H6
  iapply (wp_load 𝒱₀ (c : Thread nD τ) none Set.univ (m := oM) (Finset.subset_univ _)) $$ Hg; iintro Hg
  iapply (wp_load 𝒱₀ (c : Thread nD τ) none Set.univ (m := oM) (Finset.subset_univ _)) $$ Hg; iintro Hg
  iapply (wp_store 𝒱₀ (c : Thread nD τ) none Set.univ (m := oM) (r := wholeO) (Mk := Finset.univ) (S := Finset.univ) (Finset.subset_univ _)) $$ Hg; iintro Hg
  iapply Hk
  isplitr [Hg]
  · isplitl [Hz0 H0]; · isplitl [Hz0]; · iexact Hz0
                        iexists f0; isplitr; · ipureintro; exact h0
                        iexact H0
    isplitl [Hz1 H1]; · isplitl [Hz1]; · iexact Hz1
                        iexists f1; isplitr; · ipureintro; exact h1
                        iexact H1
    isplitl [Hz2 H2]; · isplitl [Hz2]; · iexact Hz2
                        iexists f2; isplitr; · ipureintro; exact h2
                        iexact H2
    isplitl [Hz3 H3]; · isplitl [Hz3]; · iexact Hz3
                        iexists f3; isplitr; · ipureintro; exact h3
                        iexact H3
    isplitl [Hz4 H4]; · isplitl [Hz4]; · iexact Hz4
                        iexists f4; isplitr; · ipureintro; exact h4
                        iexact H4
    isplitl [Hz5 H5]; · isplitl [Hz5]; · iexact Hz5
                        iexists f5; isplitr; · ipureintro; exact h5
                        iexact H5
    isplitl [Hz6]; · iexact Hz6
    iexists f6; isplitr; · ipureintro; exact h6
    iexact H6
  · have hz : (![0, 0] : Fin S512x2048.rank → ℕ) = fun _ => 0 := by funext a; revert a; decide
    have e1 : oM.view.readAt (Elt F) wholeO.toLoadRect g = outV m c :=
      (Memref.readAt_unit_zero (Elt F) cc0_stg2_0 hz inb_S512x2048_S512x2048_0_0 g).trans (out_eq m c g hg)
    have e2 : ∀ w : FVec F S512x2048 .f32, (oM.access wholeO).write (Elt F) g w Finset.univ = w := fun w =>
      Memref.write_access_unit_zero_univ (Elt F) cc0_stg2_0 hz inb_S512x2048_S512x2048_0_0 g w
    rw [e2, e1, h0, h1, h2, h3, h4, h5, h6]
    iexact Hg

end Cert.KernelIdeal.Ring

end
-- ==== Proof.Phases.lean ====
/-
# The phases of the body

The body cut into its phases, each run from the state before it to the state after it.
-/
module

public import proofs.«01_k».proof.Proof.Quant

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cel → ℕ)

/-! ## Devices and rows as printed -/

theorem dev1_at (c : Dev nD) : (⟨k0_dev1 c, k0_dev1_lt c⟩ : Dev nD) = dev c 7 := by revert c; decide
theorem dev2_at (c : Dev nD) : (⟨k0_dev2 c, k0_dev2_lt c⟩ : Dev nD) = dev c 1 := by revert c; decide
theorem dev3_at (c : Dev nD) : (⟨k0_dev3 c, k0_dev3_lt c⟩ : Dev nD) = fwd true c := by revert c; decide
theorem dev4_at (c : Dev nD) : (⟨k0_dev4 c, k0_dev4_lt c⟩ : Dev nD) = fwd false c := by revert c; decide
theorem dev5_at (c : Dev nD) : (⟨k0_dev5 c, k0_dev5_lt c⟩ : Dev nD) = fwd true c := by revert c; decide
theorem dev6_at (c : Dev nD) : (⟨k0_dev6 c, k0_dev6_lt c⟩ : Dev nD) = fwd false c := by revert c; decide
theorem dev7_at (c : Dev nD) : (⟨k0_dev7 c, k0_dev7_lt c⟩ : Dev nD) = fwd true c := by revert c; decide
theorem dev8_at (c : Dev nD) : (⟨k0_dev8 c, k0_dev8_lt c⟩ : Dev nD) = fwd false c := by revert c; decide
theorem dev9_at (c : Dev nD) : (⟨k0_dev9 c, k0_dev9_lt c⟩ : Dev nD) = fwd true c := by revert c; decide
theorem dev10_at (c : Dev nD) : (⟨k0_dev10 c, k0_dev10_lt c⟩ : Dev nD) = fwd false c := by revert c; decide
theorem dev11_at (c : Dev nD) : (⟨k0_dev11 c, k0_dev11_lt c⟩ : Dev nD) = fwd true c := by revert c; decide
theorem dev12_at (c : Dev nD) : (⟨k0_dev12 c, k0_dev12_lt c⟩ : Dev nD) = fwd false c := by revert c; decide
theorem dev13_at (c : Dev nD) : (⟨k0_dev13 c, k0_dev13_lt c⟩ : Dev nD) = fwd true c := by revert c; decide
theorem dev14_at (c : Dev nD) : (⟨k0_dev14 c, k0_dev14_lt c⟩ : Dev nD) = fwd false c := by revert c; decide
theorem dev15_at (c : Dev nD) : (⟨k0_dev15 c, k0_dev15_lt c⟩ : Dev nD) = fwd true c := by revert c; decide
theorem dev16_at (c : Dev nD) : (⟨k0_dev16 c, k0_dev16_lt c⟩ : Dev nD) = fwd false c := by revert c; decide
theorem dev17_at (c : Dev nD) : (⟨k0_dev17 c, k0_dev17_lt c⟩ : Dev nD) = fwd true c := by revert c; decide
theorem dev18_at (c : Dev nD) : (⟨k0_dev18 c, k0_dev18_lt c⟩ : Dev nD) = fwd false c := by revert c; decide
theorem dev19_at (c : Dev nD) : (⟨k0_dev19 c, k0_dev19_lt c⟩ : Dev nD) = fwd true c := by revert c; decide
theorem dev20_at (c : Dev nD) : (⟨k0_dev20 c, k0_dev20_lt c⟩ : Dev nD) = fwd false c := by revert c; decide
theorem dev21_at (c : Dev nD) : (⟨k0_dev21 c, k0_dev21_lt c⟩ : Dev nD) = fwd true c := by revert c; decide
theorem dev22_at (c : Dev nD) : (⟨k0_dev22 c, k0_dev22_lt c⟩ : Dev nD) = fwd false c := by revert c; decide
theorem dev23_at (c : Dev nD) : (⟨k0_dev23 c, k0_dev23_lt c⟩ : Dev nD) = fwd true c := by revert c; decide
theorem dev24_at (c : Dev nD) : (⟨k0_dev24 c, k0_dev24_lt c⟩ : Dev nD) = fwd false c := by revert c; decide
theorem dev25_at (c : Dev nD) : (⟨k0_dev25 c, k0_dev25_lt c⟩ : Dev nD) = fwd true c := by revert c; decide
theorem dev26_at (c : Dev nD) : (⟨k0_dev26 c, k0_dev26_lt c⟩ : Dev nD) = fwd false c := by revert c; decide
theorem dev27_at (c : Dev nD) : (⟨k0_dev27 c, k0_dev27_lt c⟩ : Dev nD) = fwd true c := by revert c; decide
theorem dev28_at (c : Dev nD) : (⟨k0_dev28 c, k0_dev28_lt c⟩ : Dev nD) = fwd false c := by revert c; decide
theorem dev29_at (c : Dev nD) : (⟨k0_dev29 c, k0_dev29_lt c⟩ : Dev nD) = fwd true c := by revert c; decide
theorem dev30_at (c : Dev nD) : (⟨k0_dev30 c, k0_dev30_lt c⟩ : Dev nD) = fwd false c := by revert c; decide
theorem dev31_at (c : Dev nD) : (⟨k0_dev31 c, k0_dev31_lt c⟩ : Dev nD) = fwd true c := by revert c; decide
theorem dev32_at (c : Dev nD) : (⟨k0_dev32 c, k0_dev32_lt c⟩ : Dev nD) = fwd false c := by revert c; decide
theorem dev33_at (c : Dev nD) : (⟨k0_dev33 c, k0_dev33_lt c⟩ : Dev nD) = fwd true c := by revert c; decide
theorem dev34_at (c : Dev nD) : (⟨k0_dev34 c, k0_dev34_lt c⟩ : Dev nD) = fwd false c := by revert c; decide
theorem dev35_at (c : Dev nD) : (⟨k0_dev35 c, k0_dev35_lt c⟩ : Dev nD) = fwd true c := by revert c; decide
theorem dev36_at (c : Dev nD) : (⟨k0_dev36 c, k0_dev36_lt c⟩ : Dev nD) = fwd false c := by revert c; decide
theorem dev37_at (c : Dev nD) : (⟨k0_dev37 c, k0_dev37_lt c⟩ : Dev nD) = fwd true c := by revert c; decide
theorem dev38_at (c : Dev nD) : (⟨k0_dev38 c, k0_dev38_lt c⟩ : Dev nD) = fwd false c := by revert c; decide
theorem dev39_at (c : Dev nD) : (⟨k0_dev39 c, k0_dev39_lt c⟩ : Dev nD) = fwd true c := by revert c; decide
theorem dev40_at (c : Dev nD) : (⟨k0_dev40 c, k0_dev40_lt c⟩ : Dev nD) = fwd false c := by revert c; decide
theorem dev41_at (c : Dev nD) : (⟨k0_dev41 c, k0_dev41_lt c⟩ : Dev nD) = fwd true c := by revert c; decide
theorem dev42_at (c : Dev nD) : (⟨k0_dev42 c, k0_dev42_lt c⟩ : Dev nD) = fwd false c := by revert c; decide
theorem dev43_at (c : Dev nD) : (⟨k0_dev43 c, k0_dev43_lt c⟩ : Dev nD) = fwd true c := by revert c; decide
theorem dev44_at (c : Dev nD) : (⟨k0_dev44 c, k0_dev44_lt c⟩ : Dev nD) = fwd false c := by revert c; decide
theorem dev45_at (c : Dev nD) : (⟨k0_dev45 c, k0_dev45_lt c⟩ : Dev nD) = fwd true c := by revert c; decide
theorem dev46_at (c : Dev nD) : (⟨k0_dev46 c, k0_dev46_lt c⟩ : Dev nD) = fwd false c := by revert c; decide
theorem dev47_at (c : Dev nD) : (⟨k0_dev47 c, k0_dev47_lt c⟩ : Dev nD) = fwd true c := by revert c; decide
theorem dev48_at (c : Dev nD) : (⟨k0_dev48 c, k0_dev48_lt c⟩ : Dev nD) = fwd false c := by revert c; decide
theorem dev49_at (c : Dev nD) : (⟨k0_dev49 c, k0_dev49_lt c⟩ : Dev nD) = fwd true c := by revert c; decide
theorem dev50_at (c : Dev nD) : (⟨k0_dev50 c, k0_dev50_lt c⟩ : Dev nD) = fwd false c := by revert c; decide
theorem dev51_at (c : Dev nD) : (⟨k0_dev51 c, k0_dev51_lt c⟩ : Dev nD) = fwd true c := by revert c; decide
theorem dev52_at (c : Dev nD) : (⟨k0_dev52 c, k0_dev52_lt c⟩ : Dev nD) = fwd false c := by revert c; decide
theorem dev53_at (c : Dev nD) : (⟨k0_dev53 c, k0_dev53_lt c⟩ : Dev nD) = fwd true c := by revert c; decide
theorem dev54_at (c : Dev nD) : (⟨k0_dev54 c, k0_dev54_lt c⟩ : Dev nD) = fwd false c := by revert c; decide
theorem dev55_at (c : Dev nD) : (⟨k0_dev55 c, k0_dev55_lt c⟩ : Dev nD) = fwd true c := by revert c; decide
theorem dev56_at (c : Dev nD) : (⟨k0_dev56 c, k0_dev56_lt c⟩ : Dev nD) = fwd false c := by revert c; decide
theorem dev57_at (c : Dev nD) : (⟨k0_dev57 c, k0_dev57_lt c⟩ : Dev nD) = fwd true c := by revert c; decide
theorem dev58_at (c : Dev nD) : (⟨k0_dev58 c, k0_dev58_lt c⟩ : Dev nD) = fwd false c := by revert c; decide
theorem dev59_at (c : Dev nD) : (⟨k0_dev59 c, k0_dev59_lt c⟩ : Dev nD) = dev c 1 := by revert c; decide
theorem dev60_at (c : Dev nD) : (⟨k0_dev60 c, k0_dev60_lt c⟩ : Dev nD) = dev c 2 := by revert c; decide
theorem dev61_at (c : Dev nD) : (⟨k0_dev61 c, k0_dev61_lt c⟩ : Dev nD) = dev c 3 := by revert c; decide
theorem dev62_at (c : Dev nD) : (⟨k0_dev62 c, k0_dev62_lt c⟩ : Dev nD) = dev c 4 := by revert c; decide
theorem dev63_at (c : Dev nD) : (⟨k0_dev63 c, k0_dev63_lt c⟩ : Dev nD) = dev c 5 := by revert c; decide
theorem dev64_at (c : Dev nD) : (⟨k0_dev64 c, k0_dev64_lt c⟩ : Dev nD) = dev c 6 := by revert c; decide
theorem dev65_at (c : Dev nD) : (⟨k0_dev65 c, k0_dev65_lt c⟩ : Dev nD) = dev c 7 := by revert c; decide
theorem off1_at (c : Dev nD) : k0_off1 c = offs (blk true 0 c) := by revert c; decide
theorem off2_at (c : Dev nD) : k0_off2 c = offs (blk false 0 c) := by revert c; decide
theorem off3_at1 (c : Dev nD) : k0_off3 c 1#32 = offs (blk true 1 c) := by revert c; decide
theorem off4_at1 (c : Dev nD) : k0_off4 c 1#32 = offs (blk false 1 c) := by revert c; decide
theorem off3_at2 (c : Dev nD) : k0_off3 c 2#32 = offs (blk true 2 c) := by revert c; decide
theorem off4_at2 (c : Dev nD) : k0_off4 c 2#32 = offs (blk false 2 c) := by revert c; decide
theorem off3_at3 (c : Dev nD) : k0_off3 c 3#32 = offs (blk true 3 c) := by revert c; decide
theorem off4_at3 (c : Dev nD) : k0_off4 c 3#32 = offs (blk false 3 c) := by revert c; decide
theorem off3_at4 (c : Dev nD) : k0_off3 c 4#32 = offs (blk true 4 c) := by revert c; decide
theorem off4_at4 (c : Dev nD) : k0_off4 c 4#32 = offs (blk false 4 c) := by revert c; decide
theorem off3_at5 (c : Dev nD) : k0_off3 c 5#32 = offs (blk true 5 c) := by revert c; decide
theorem off4_at5 (c : Dev nD) : k0_off4 c 5#32 = offs (blk false 5 c) := by revert c; decide
theorem off3_at6 (c : Dev nD) : k0_off3 c 6#32 = offs (blk true 6 c) := by revert c; decide
theorem off4_at6 (c : Dev nD) : k0_off4 c 6#32 = offs (blk false 6 c) := by revert c; decide
theorem off5_at (c : Dev nD) (dir : Bool) : k0_off5 c = offs (blk dir 7 c) := by revert c dir; decide

/-! ## The phases -/

def initP (c : Dev nD) (k : P F) : P F :=
  initStep true 0 (k0_off1 c) (k0_off1_inb c) <| sendStep true 0 0 ⟨k0_dev3 c, k0_dev3_lt c⟩ <|
  initStep false 0 (k0_off2 c) (k0_off2_inb c) <| sendStep false 0 0 ⟨k0_dev4 c, k0_dev4_lt c⟩ <|
  initStep true 1 (k0_off1 c) (k0_off1_inb c) <| sendStep true 0 1 ⟨k0_dev5 c, k0_dev5_lt c⟩ <|
  initStep false 1 (k0_off2 c) (k0_off2_inb c) <| sendStep false 0 1 ⟨k0_dev6 c, k0_dev6_lt c⟩ <|
  initStep true 2 (k0_off1 c) (k0_off1_inb c) <| sendStep true 0 2 ⟨k0_dev7 c, k0_dev7_lt c⟩ <|
  initStep false 2 (k0_off2 c) (k0_off2_inb c) <| sendStep false 0 2 ⟨k0_dev8 c, k0_dev8_lt c⟩ <|
  initStep true 3 (k0_off1 c) (k0_off1_inb c) <| sendStep true 0 3 ⟨k0_dev9 c, k0_dev9_lt c⟩ <|
  initStep false 3 (k0_off2 c) (k0_off2_inb c) <| sendStep false 0 3 ⟨k0_dev10 c, k0_dev10_lt c⟩ <|
  k
def midP1 (c : Dev nD) (k : P F) : P F :=
  hopStep true 0 0 (k0_off3 c 1#32) (k0_off3_inb c 0) ⟨k0_dev11 c, k0_dev11_lt c⟩ 1 <|
  hopStep false 0 0 (k0_off4 c 1#32) (k0_off4_inb c 0) ⟨k0_dev12 c, k0_dev12_lt c⟩ 1 <|
  hopStep true 0 1 (k0_off3 c 1#32) (k0_off3_inb c 0) ⟨k0_dev13 c, k0_dev13_lt c⟩ 1 <|
  hopStep false 0 1 (k0_off4 c 1#32) (k0_off4_inb c 0) ⟨k0_dev14 c, k0_dev14_lt c⟩ 1 <|
  hopStep true 0 2 (k0_off3 c 1#32) (k0_off3_inb c 0) ⟨k0_dev15 c, k0_dev15_lt c⟩ 1 <|
  hopStep false 0 2 (k0_off4 c 1#32) (k0_off4_inb c 0) ⟨k0_dev16 c, k0_dev16_lt c⟩ 1 <|
  hopStep true 0 3 (k0_off3 c 1#32) (k0_off3_inb c 0) ⟨k0_dev17 c, k0_dev17_lt c⟩ 1 <|
  hopStep false 0 3 (k0_off4 c 1#32) (k0_off4_inb c 0) ⟨k0_dev18 c, k0_dev18_lt c⟩ 1 <|
  k
def midP2 (c : Dev nD) (k : P F) : P F :=
  hopStep true 1 0 (k0_off3 c 2#32) (k0_off3_inb c 1) ⟨k0_dev19 c, k0_dev19_lt c⟩ 2 <|
  hopStep false 1 0 (k0_off4 c 2#32) (k0_off4_inb c 1) ⟨k0_dev20 c, k0_dev20_lt c⟩ 2 <|
  hopStep true 1 1 (k0_off3 c 2#32) (k0_off3_inb c 1) ⟨k0_dev21 c, k0_dev21_lt c⟩ 2 <|
  hopStep false 1 1 (k0_off4 c 2#32) (k0_off4_inb c 1) ⟨k0_dev22 c, k0_dev22_lt c⟩ 2 <|
  hopStep true 1 2 (k0_off3 c 2#32) (k0_off3_inb c 1) ⟨k0_dev23 c, k0_dev23_lt c⟩ 2 <|
  hopStep false 1 2 (k0_off4 c 2#32) (k0_off4_inb c 1) ⟨k0_dev24 c, k0_dev24_lt c⟩ 2 <|
  hopStep true 1 3 (k0_off3 c 2#32) (k0_off3_inb c 1) ⟨k0_dev25 c, k0_dev25_lt c⟩ 2 <|
  hopStep false 1 3 (k0_off4 c 2#32) (k0_off4_inb c 1) ⟨k0_dev26 c, k0_dev26_lt c⟩ 2 <|
  k
def midP3 (c : Dev nD) (k : P F) : P F :=
  hopStep true 2 0 (k0_off3 c 3#32) (k0_off3_inb c 2) ⟨k0_dev27 c, k0_dev27_lt c⟩ 3 <|
  hopStep false 2 0 (k0_off4 c 3#32) (k0_off4_inb c 2) ⟨k0_dev28 c, k0_dev28_lt c⟩ 3 <|
  hopStep true 2 1 (k0_off3 c 3#32) (k0_off3_inb c 2) ⟨k0_dev29 c, k0_dev29_lt c⟩ 3 <|
  hopStep false 2 1 (k0_off4 c 3#32) (k0_off4_inb c 2) ⟨k0_dev30 c, k0_dev30_lt c⟩ 3 <|
  hopStep true 2 2 (k0_off3 c 3#32) (k0_off3_inb c 2) ⟨k0_dev31 c, k0_dev31_lt c⟩ 3 <|
  hopStep false 2 2 (k0_off4 c 3#32) (k0_off4_inb c 2) ⟨k0_dev32 c, k0_dev32_lt c⟩ 3 <|
  hopStep true 2 3 (k0_off3 c 3#32) (k0_off3_inb c 2) ⟨k0_dev33 c, k0_dev33_lt c⟩ 3 <|
  hopStep false 2 3 (k0_off4 c 3#32) (k0_off4_inb c 2) ⟨k0_dev34 c, k0_dev34_lt c⟩ 3 <|
  k
def midP4 (c : Dev nD) (k : P F) : P F :=
  hopStep true 3 0 (k0_off3 c 4#32) (k0_off3_inb c 3) ⟨k0_dev35 c, k0_dev35_lt c⟩ 4 <|
  hopStep false 3 0 (k0_off4 c 4#32) (k0_off4_inb c 3) ⟨k0_dev36 c, k0_dev36_lt c⟩ 4 <|
  hopStep true 3 1 (k0_off3 c 4#32) (k0_off3_inb c 3) ⟨k0_dev37 c, k0_dev37_lt c⟩ 4 <|
  hopStep false 3 1 (k0_off4 c 4#32) (k0_off4_inb c 3) ⟨k0_dev38 c, k0_dev38_lt c⟩ 4 <|
  hopStep true 3 2 (k0_off3 c 4#32) (k0_off3_inb c 3) ⟨k0_dev39 c, k0_dev39_lt c⟩ 4 <|
  hopStep false 3 2 (k0_off4 c 4#32) (k0_off4_inb c 3) ⟨k0_dev40 c, k0_dev40_lt c⟩ 4 <|
  hopStep true 3 3 (k0_off3 c 4#32) (k0_off3_inb c 3) ⟨k0_dev41 c, k0_dev41_lt c⟩ 4 <|
  hopStep false 3 3 (k0_off4 c 4#32) (k0_off4_inb c 3) ⟨k0_dev42 c, k0_dev42_lt c⟩ 4 <|
  k
def midP5 (c : Dev nD) (k : P F) : P F :=
  hopStep true 4 0 (k0_off3 c 5#32) (k0_off3_inb c 4) ⟨k0_dev43 c, k0_dev43_lt c⟩ 5 <|
  hopStep false 4 0 (k0_off4 c 5#32) (k0_off4_inb c 4) ⟨k0_dev44 c, k0_dev44_lt c⟩ 5 <|
  hopStep true 4 1 (k0_off3 c 5#32) (k0_off3_inb c 4) ⟨k0_dev45 c, k0_dev45_lt c⟩ 5 <|
  hopStep false 4 1 (k0_off4 c 5#32) (k0_off4_inb c 4) ⟨k0_dev46 c, k0_dev46_lt c⟩ 5 <|
  hopStep true 4 2 (k0_off3 c 5#32) (k0_off3_inb c 4) ⟨k0_dev47 c, k0_dev47_lt c⟩ 5 <|
  hopStep false 4 2 (k0_off4 c 5#32) (k0_off4_inb c 4) ⟨k0_dev48 c, k0_dev48_lt c⟩ 5 <|
  hopStep true 4 3 (k0_off3 c 5#32) (k0_off3_inb c 4) ⟨k0_dev49 c, k0_dev49_lt c⟩ 5 <|
  hopStep false 4 3 (k0_off4 c 5#32) (k0_off4_inb c 4) ⟨k0_dev50 c, k0_dev50_lt c⟩ 5 <|
  k
def midP6 (c : Dev nD) (k : P F) : P F :=
  hopStep true 5 0 (k0_off3 c 6#32) (k0_off3_inb c 5) ⟨k0_dev51 c, k0_dev51_lt c⟩ 6 <|
  hopStep false 5 0 (k0_off4 c 6#32) (k0_off4_inb c 5) ⟨k0_dev52 c, k0_dev52_lt c⟩ 6 <|
  hopStep true 5 1 (k0_off3 c 6#32) (k0_off3_inb c 5) ⟨k0_dev53 c, k0_dev53_lt c⟩ 6 <|
  hopStep false 5 1 (k0_off4 c 6#32) (k0_off4_inb c 5) ⟨k0_dev54 c, k0_dev54_lt c⟩ 6 <|
  hopStep true 5 2 (k0_off3 c 6#32) (k0_off3_inb c 5) ⟨k0_dev55 c, k0_dev55_lt c⟩ 6 <|
  hopStep false 5 2 (k0_off4 c 6#32) (k0_off4_inb c 5) ⟨k0_dev56 c, k0_dev56_lt c⟩ 6 <|
  hopStep true 5 3 (k0_off3 c 6#32) (k0_off3_inb c 5) ⟨k0_dev57 c, k0_dev57_lt c⟩ 6 <|
  hopStep false 5 3 (k0_off4 c 6#32) (k0_off4_inb c 5) ⟨k0_dev58 c, k0_dev58_lt c⟩ 6 <|
  k
def endP (c : Dev nD) (k : F .f32 → P F) : P F :=
  waitStep true 6 0 <| lastStep true 0 (k0_off5 c) (k0_off5_inb c) zero0 fun l1 =>
  waitStep false 6 0 <| lastStep false 0 (k0_off5 c) (k0_off5_inb c) l1 fun l2 =>
  waitStep true 6 1 <| lastStep true 1 (k0_off5 c) (k0_off5_inb c) l2 fun l3 =>
  waitStep false 6 1 <| lastStep false 1 (k0_off5 c) (k0_off5_inb c) l3 fun l4 =>
  waitStep true 6 2 <| lastStep true 2 (k0_off5 c) (k0_off5_inb c) l4 fun l5 =>
  waitStep false 6 2 <| lastStep false 2 (k0_off5 c) (k0_off5_inb c) l5 fun l6 =>
  waitStep true 6 3 <| lastStep true 3 (k0_off5 c) (k0_off5_inb c) l6 fun l7 =>
  waitStep false 6 3 <| lastStep false 3 (k0_off5 c) (k0_off5_inb c) l7 fun l8 =>
  k l8
def amSendP (c : Dev nD) (k : P F) : P F :=
  amSend 0 ⟨k0_dev59 c, k0_dev59_lt c⟩ <|
  amSend 1 ⟨k0_dev60 c, k0_dev60_lt c⟩ <|
  amSend 2 ⟨k0_dev61 c, k0_dev61_lt c⟩ <|
  amSend 3 ⟨k0_dev62 c, k0_dev62_lt c⟩ <|
  amSend 4 ⟨k0_dev63 c, k0_dev63_lt c⟩ <|
  amSend 5 ⟨k0_dev64 c, k0_dev64_lt c⟩ <|
  amSend 6 ⟨k0_dev65 c, k0_dev65_lt c⟩ <|
  k
def amWaitP (k : P F) : P F :=
  amWait 0 <| amWait 1 <| amWait 2 <| amWait 3 <| amWait 4 <| amWait 5 <| amWait 6 <| k
def sentPT (k : P F) : P F :=
  sentStep true 0 0 <| sentStep true 0 1 <| sentStep true 0 2 <| sentStep true 0 3 <|
  sentStep true 1 0 <| sentStep true 1 1 <| sentStep true 1 2 <| sentStep true 1 3 <|
  sentStep true 2 0 <| sentStep true 2 1 <| sentStep true 2 2 <| sentStep true 2 3 <|
  sentStep true 3 0 <| sentStep true 3 1 <| sentStep true 3 2 <| sentStep true 3 3 <|
  sentStep true 4 0 <| sentStep true 4 1 <| sentStep true 4 2 <| sentStep true 4 3 <|
  sentStep true 5 0 <| sentStep true 5 1 <| sentStep true 5 2 <| sentStep true 5 3 <|
  sentStep true 6 0 <| sentStep true 6 1 <| sentStep true 6 2 <| sentStep true 6 3 <|
  k
def sentPF (k : P F) : P F :=
  sentStep false 0 0 <| sentStep false 0 1 <| sentStep false 0 2 <| sentStep false 0 3 <|
  sentStep false 1 0 <| sentStep false 1 1 <| sentStep false 1 2 <| sentStep false 1 3 <|
  sentStep false 2 0 <| sentStep false 2 1 <| sentStep false 2 2 <| sentStep false 2 3 <|
  sentStep false 3 0 <| sentStep false 3 1 <| sentStep false 3 2 <| sentStep false 3 3 <|
  sentStep false 4 0 <| sentStep false 4 1 <| sentStep false 4 2 <| sentStep false 4 3 <|
  sentStep false 5 0 <| sentStep false 5 1 <| sentStep false 5 2 <| sentStep false 5 3 <|
  sentStep false 6 0 <| sentStep false 6 1 <| sentStep false 6 2 <| sentStep false 6 3 <|
  k
def amSentP (k : P F) : P F :=
  amSent 0 <| amSent 1 <| amSent 2 <| amSent 3 <| amSent 4 <| amSent 5 <| amSent 6 <| k

theorem body_phases (c : Dev nD) : (body c : P F) =
    (barrierStep ⟨k0_dev1 c, k0_dev1_lt c⟩ ⟨k0_dev2 c, k0_dev2_lt c⟩ <| initP c <| midP1 c <| midP2 c <| midP3 c <| midP4 c <| midP5 c <| midP6 c <|
      endP c fun l8 => amStore l8 <| amSendP c <| amWaitP <| quantStep l8 <| sentPT <| sentPF <| amSentP <| .ret ⟨⟩) := rfl

/-- What the first products need. -/
def firsts (c : Dev nD) (R : sProp 𝕄) : sProp 𝕄 :=
  iprop((slotE c true 7 0 ∗ amX (fwd true c) true 0 0) ∗ ((slotE c false 7 0 ∗ amX (fwd false c) false 0 0) ∗ ((slotE c true 7 1 ∗ amX (fwd true c) true 0 1) ∗ ((slotE c false 7 1 ∗ amX (fwd false c) false 0 1) ∗ ((slotE c true 7 2 ∗ amX (fwd true c) true 0 2) ∗ ((slotE c false 7 2 ∗ amX (fwd false c) false 0 2) ∗ ((slotE c true 7 3 ∗ amX (fwd true c) true 0 3) ∗ ((slotE c false 7 3 ∗ amX (fwd false c) false 0 3) ∗ R))))))))

theorem init_phase (c : Dev nD) (R : sProp 𝕄) (k : P F) (Q : PUnit → sProp 𝕄) (hk : St m K c true 4 0 4 0 R ⊢ WP c k Q) :
    St m K c true 0 0 0 0 (firsts c R) ⊢ WP c (initP c k) Q := by
  unfold firsts initP
  refine init_send m K c true 0 _ _ (off1_at c) _ (dev3_at c) 0 0 rfl (iprop((slotE c false 7 0 ∗ amX (fwd false c) false 0 0) ∗ ((slotE c true 7 1 ∗ amX (fwd true c) true 0 1) ∗ ((slotE c false 7 1 ∗ amX (fwd false c) false 0 1) ∗ ((slotE c true 7 2 ∗ amX (fwd true c) true 0 2) ∗ ((slotE c false 7 2 ∗ amX (fwd false c) false 0 2) ∗ ((slotE c true 7 3 ∗ amX (fwd true c) true 0 3) ∗ ((slotE c false 7 3 ∗ amX (fwd false c) false 0 3) ∗ R)))))))) _ Q ?_
  refine init_send m K c false 0 _ _ (off2_at c) _ (dev4_at c) 0 1 rfl (iprop((slotE c true 7 1 ∗ amX (fwd true c) true 0 1) ∗ ((slotE c false 7 1 ∗ amX (fwd false c) false 0 1) ∗ ((slotE c true 7 2 ∗ amX (fwd true c) true 0 2) ∗ ((slotE c false 7 2 ∗ amX (fwd false c) false 0 2) ∗ ((slotE c true 7 3 ∗ amX (fwd true c) true 0 3) ∗ ((slotE c false 7 3 ∗ amX (fwd false c) false 0 3) ∗ R))))))) _ Q ?_
  refine init_send m K c true 1 _ _ (off1_at c) _ (dev5_at c) 1 1 rfl (iprop((slotE c false 7 1 ∗ amX (fwd false c) false 0 1) ∗ ((slotE c true 7 2 ∗ amX (fwd true c) true 0 2) ∗ ((slotE c false 7 2 ∗ amX (fwd false c) false 0 2) ∗ ((slotE c true 7 3 ∗ amX (fwd true c) true 0 3) ∗ ((slotE c false 7 3 ∗ amX (fwd false c) false 0 3) ∗ R)))))) _ Q ?_
  refine init_send m K c false 1 _ _ (off2_at c) _ (dev6_at c) 1 2 rfl (iprop((slotE c true 7 2 ∗ amX (fwd true c) true 0 2) ∗ ((slotE c false 7 2 ∗ amX (fwd false c) false 0 2) ∗ ((slotE c true 7 3 ∗ amX (fwd true c) true 0 3) ∗ ((slotE c false 7 3 ∗ amX (fwd false c) false 0 3) ∗ R))))) _ Q ?_
  refine init_send m K c true 2 _ _ (off1_at c) _ (dev7_at c) 2 2 rfl (iprop((slotE c false 7 2 ∗ amX (fwd false c) false 0 2) ∗ ((slotE c true 7 3 ∗ amX (fwd true c) true 0 3) ∗ ((slotE c false 7 3 ∗ amX (fwd false c) false 0 3) ∗ R)))) _ Q ?_
  refine init_send m K c false 2 _ _ (off2_at c) _ (dev8_at c) 2 3 rfl (iprop((slotE c true 7 3 ∗ amX (fwd true c) true 0 3) ∗ ((slotE c false 7 3 ∗ amX (fwd false c) false 0 3) ∗ R))) _ Q ?_
  refine init_send m K c true 3 _ _ (off1_at c) _ (dev9_at c) 3 3 rfl (iprop((slotE c false 7 3 ∗ amX (fwd false c) false 0 3) ∗ R)) _ Q ?_
  refine init_send m K c false 3 _ _ (off2_at c) _ (dev10_at c) 3 4 rfl (R) _ Q ?_
  exact hk

theorem mid_phase1 (c : Dev nD) (R : sProp 𝕄) (k : P F) (Q : PUnit → sProp 𝕄) (hk : St m K c true 8 4 8 4 R ⊢ WP c k Q) :
    St m K c true 4 0 4 0 R ⊢ WP c (midP1 c k) Q := by
  unfold midP1
  refine hop_step m K c true 0 0 _ _ (off3_at1 c) _ (dev11_at c) 1 rfl 4 0 4 0 rfl rfl ⟨by decide, by decide⟩ R _ Q ?_
  refine hop_step m K c false 0 0 _ _ (off4_at1 c) _ (dev12_at c) 1 rfl 4 0 5 1 rfl rfl ⟨by decide, by decide⟩ R _ Q ?_
  refine hop_step m K c true 0 1 _ _ (off3_at1 c) _ (dev13_at c) 1 rfl 5 1 5 1 rfl rfl ⟨by decide, by decide⟩ R _ Q ?_
  refine hop_step m K c false 0 1 _ _ (off4_at1 c) _ (dev14_at c) 1 rfl 5 1 6 2 rfl rfl ⟨by decide, by decide⟩ R _ Q ?_
  refine hop_step m K c true 0 2 _ _ (off3_at1 c) _ (dev15_at c) 1 rfl 6 2 6 2 rfl rfl ⟨by decide, by decide⟩ R _ Q ?_
  refine hop_step m K c false 0 2 _ _ (off4_at1 c) _ (dev16_at c) 1 rfl 6 2 7 3 rfl rfl ⟨by decide, by decide⟩ R _ Q ?_
  refine hop_step m K c true 0 3 _ _ (off3_at1 c) _ (dev17_at c) 1 rfl 7 3 7 3 rfl rfl ⟨by decide, by decide⟩ R _ Q ?_
  refine hop_step m K c false 0 3 _ _ (off4_at1 c) _ (dev18_at c) 1 rfl 7 3 8 4 rfl rfl ⟨by decide, by decide⟩ R _ Q ?_
  exact hk

theorem mid_phase2 (c : Dev nD) (R : sProp 𝕄) (k : P F) (Q : PUnit → sProp 𝕄) (hk : St m K c true 12 8 12 8 R ⊢ WP c k Q) :
    St m K c true 8 4 8 4 R ⊢ WP c (midP2 c k) Q := by
  unfold midP2
  refine hop_step m K c true 1 0 _ _ (off3_at2 c) _ (dev19_at c) 2 rfl 8 4 8 4 rfl rfl ⟨by decide, by decide⟩ R _ Q ?_
  refine hop_step m K c false 1 0 _ _ (off4_at2 c) _ (dev20_at c) 2 rfl 8 4 9 5 rfl rfl ⟨by decide, by decide⟩ R _ Q ?_
  refine hop_step m K c true 1 1 _ _ (off3_at2 c) _ (dev21_at c) 2 rfl 9 5 9 5 rfl rfl ⟨by decide, by decide⟩ R _ Q ?_
  refine hop_step m K c false 1 1 _ _ (off4_at2 c) _ (dev22_at c) 2 rfl 9 5 10 6 rfl rfl ⟨by decide, by decide⟩ R _ Q ?_
  refine hop_step m K c true 1 2 _ _ (off3_at2 c) _ (dev23_at c) 2 rfl 10 6 10 6 rfl rfl ⟨by decide, by decide⟩ R _ Q ?_
  refine hop_step m K c false 1 2 _ _ (off4_at2 c) _ (dev24_at c) 2 rfl 10 6 11 7 rfl rfl ⟨by decide, by decide⟩ R _ Q ?_
  refine hop_step m K c true 1 3 _ _ (off3_at2 c) _ (dev25_at c) 2 rfl 11 7 11 7 rfl rfl ⟨by decide, by decide⟩ R _ Q ?_
  refine hop_step m K c false 1 3 _ _ (off4_at2 c) _ (dev26_at c) 2 rfl 11 7 12 8 rfl rfl ⟨by decide, by decide⟩ R _ Q ?_
  exact hk

theorem mid_phase3 (c : Dev nD) (R : sProp 𝕄) (k : P F) (Q : PUnit → sProp 𝕄) (hk : St m K c true 16 12 16 12 R ⊢ WP c k Q) :
    St m K c true 12 8 12 8 R ⊢ WP c (midP3 c k) Q := by
  unfold midP3
  refine hop_step m K c true 2 0 _ _ (off3_at3 c) _ (dev27_at c) 3 rfl 12 8 12 8 rfl rfl ⟨by decide, by decide⟩ R _ Q ?_
  refine hop_step m K c false 2 0 _ _ (off4_at3 c) _ (dev28_at c) 3 rfl 12 8 13 9 rfl rfl ⟨by decide, by decide⟩ R _ Q ?_
  refine hop_step m K c true 2 1 _ _ (off3_at3 c) _ (dev29_at c) 3 rfl 13 9 13 9 rfl rfl ⟨by decide, by decide⟩ R _ Q ?_
  refine hop_step m K c false 2 1 _ _ (off4_at3 c) _ (dev30_at c) 3 rfl 13 9 14 10 rfl rfl ⟨by decide, by decide⟩ R _ Q ?_
  refine hop_step m K c true 2 2 _ _ (off3_at3 c) _ (dev31_at c) 3 rfl 14 10 14 10 rfl rfl ⟨by decide, by decide⟩ R _ Q ?_
  refine hop_step m K c false 2 2 _ _ (off4_at3 c) _ (dev32_at c) 3 rfl 14 10 15 11 rfl rfl ⟨by decide, by decide⟩ R _ Q ?_
  refine hop_step m K c true 2 3 _ _ (off3_at3 c) _ (dev33_at c) 3 rfl 15 11 15 11 rfl rfl ⟨by decide, by decide⟩ R _ Q ?_
  refine hop_step m K c false 2 3 _ _ (off4_at3 c) _ (dev34_at c) 3 rfl 15 11 16 12 rfl rfl ⟨by decide, by decide⟩ R _ Q ?_
  exact hk

theorem mid_phase4 (c : Dev nD) (R : sProp 𝕄) (k : P F) (Q : PUnit → sProp 𝕄) (hk : St m K c true 20 16 20 16 R ⊢ WP c k Q) :
    St m K c true 16 12 16 12 R ⊢ WP c (midP4 c k) Q := by
  unfold midP4
  refine hop_step m K c true 3 0 _ _ (off3_at4 c) _ (dev35_at c) 4 rfl 16 12 16 12 rfl rfl ⟨by decide, by decide⟩ R _ Q ?_
  refine hop_step m K c false 3 0 _ _ (off4_at4 c) _ (dev36_at c) 4 rfl 16 12 17 13 rfl rfl ⟨by decide, by decide⟩ R _ Q ?_
  refine hop_step m K c true 3 1 _ _ (off3_at4 c) _ (dev37_at c) 4 rfl 17 13 17 13 rfl rfl ⟨by decide, by decide⟩ R _ Q ?_
  refine hop_step m K c false 3 1 _ _ (off4_at4 c) _ (dev38_at c) 4 rfl 17 13 18 14 rfl rfl ⟨by decide, by decide⟩ R _ Q ?_
  refine hop_step m K c true 3 2 _ _ (off3_at4 c) _ (dev39_at c) 4 rfl 18 14 18 14 rfl rfl ⟨by decide, by decide⟩ R _ Q ?_
  refine hop_step m K c false 3 2 _ _ (off4_at4 c) _ (dev40_at c) 4 rfl 18 14 19 15 rfl rfl ⟨by decide, by decide⟩ R _ Q ?_
  refine hop_step m K c true 3 3 _ _ (off3_at4 c) _ (dev41_at c) 4 rfl 19 15 19 15 rfl rfl ⟨by decide, by decide⟩ R _ Q ?_
  refine hop_step m K c false 3 3 _ _ (off4_at4 c) _ (dev42_at c) 4 rfl 19 15 20 16 rfl rfl ⟨by decide, by decide⟩ R _ Q ?_
  exact hk

theorem mid_phase5 (c : Dev nD) (R : sProp 𝕄) (k : P F) (Q : PUnit → sProp 𝕄) (hk : St m K c true 24 20 24 20 R ⊢ WP c k Q) :
    St m K c true 20 16 20 16 R ⊢ WP c (midP5 c k) Q := by
  unfold midP5
  refine hop_step m K c true 4 0 _ _ (off3_at5 c) _ (dev43_at c) 5 rfl 20 16 20 16 rfl rfl ⟨by decide, by decide⟩ R _ Q ?_
  refine hop_step m K c false 4 0 _ _ (off4_at5 c) _ (dev44_at c) 5 rfl 20 16 21 17 rfl rfl ⟨by decide, by decide⟩ R _ Q ?_
  refine hop_step m K c true 4 1 _ _ (off3_at5 c) _ (dev45_at c) 5 rfl 21 17 21 17 rfl rfl ⟨by decide, by decide⟩ R _ Q ?_
  refine hop_step m K c false 4 1 _ _ (off4_at5 c) _ (dev46_at c) 5 rfl 21 17 22 18 rfl rfl ⟨by decide, by decide⟩ R _ Q ?_
  refine hop_step m K c true 4 2 _ _ (off3_at5 c) _ (dev47_at c) 5 rfl 22 18 22 18 rfl rfl ⟨by decide, by decide⟩ R _ Q ?_
  refine hop_step m K c false 4 2 _ _ (off4_at5 c) _ (dev48_at c) 5 rfl 22 18 23 19 rfl rfl ⟨by decide, by decide⟩ R _ Q ?_
  refine hop_step m K c true 4 3 _ _ (off3_at5 c) _ (dev49_at c) 5 rfl 23 19 23 19 rfl rfl ⟨by decide, by decide⟩ R _ Q ?_
  refine hop_step m K c false 4 3 _ _ (off4_at5 c) _ (dev50_at c) 5 rfl 23 19 24 20 rfl rfl ⟨by decide, by decide⟩ R _ Q ?_
  exact hk

theorem mid_phase6 (c : Dev nD) (R : sProp 𝕄) (k : P F) (Q : PUnit → sProp 𝕄) (hk : St m K c true 28 24 28 24 R ⊢ WP c k Q) :
    St m K c true 24 20 24 20 R ⊢ WP c (midP6 c k) Q := by
  unfold midP6
  refine hop_step m K c true 5 0 _ _ (off3_at6 c) _ (dev51_at c) 6 rfl 24 20 24 20 rfl rfl ⟨by decide, by decide⟩ R _ Q ?_
  refine hop_step m K c false 5 0 _ _ (off4_at6 c) _ (dev52_at c) 6 rfl 24 20 25 21 rfl rfl ⟨by decide, by decide⟩ R _ Q ?_
  refine hop_step m K c true 5 1 _ _ (off3_at6 c) _ (dev53_at c) 6 rfl 25 21 25 21 rfl rfl ⟨by decide, by decide⟩ R _ Q ?_
  refine hop_step m K c false 5 1 _ _ (off4_at6 c) _ (dev54_at c) 6 rfl 25 21 26 22 rfl rfl ⟨by decide, by decide⟩ R _ Q ?_
  refine hop_step m K c true 5 2 _ _ (off3_at6 c) _ (dev55_at c) 6 rfl 26 22 26 22 rfl rfl ⟨by decide, by decide⟩ R _ Q ?_
  refine hop_step m K c false 5 2 _ _ (off4_at6 c) _ (dev56_at c) 6 rfl 26 22 27 23 rfl rfl ⟨by decide, by decide⟩ R _ Q ?_
  refine hop_step m K c true 5 3 _ _ (off3_at6 c) _ (dev57_at c) 6 rfl 27 23 27 23 rfl rfl ⟨by decide, by decide⟩ R _ Q ?_
  refine hop_step m K c false 5 3 _ _ (off4_at6 c) _ (dev58_at c) 6 rfl 27 23 28 24 rfl rfl ⟨by decide, by decide⟩ R _ Q ?_
  exact hk

theorem end_phase (c : Dev nD) (R : sProp 𝕄) (k : F .f32 → P F) (Q : PUnit → sProp 𝕄) (hk : St m K c true 28 28 28 28 iprop(OutOk m c 8 ∗ R) ⊢ WP c (k (lm m c)) Q) :
    St m K c true 28 24 28 24 iprop(OutOk m c 0 ∗ R) ⊢ WP c (endP c k) Q := by
  unfold endP
  refine last_step m K c true 0 _ _ (off5_at c true) 0 (by decide) rfl rfl _ rfl 24 24 rfl R _ Q ?_
  refine last_step m K c false 0 _ _ (off5_at c false) 1 (by decide) rfl rfl _ rfl 24 25 rfl R _ Q ?_
  refine last_step m K c true 1 _ _ (off5_at c true) 2 (by decide) rfl rfl _ rfl 25 25 rfl R _ Q ?_
  refine last_step m K c false 1 _ _ (off5_at c false) 3 (by decide) rfl rfl _ rfl 25 26 rfl R _ Q ?_
  refine last_step m K c true 2 _ _ (off5_at c true) 4 (by decide) rfl rfl _ rfl 26 26 rfl R _ Q ?_
  refine last_step m K c false 2 _ _ (off5_at c false) 5 (by decide) rfl rfl _ rfl 26 27 rfl R _ Q ?_
  refine last_step m K c true 3 _ _ (off5_at c true) 6 (by decide) rfl rfl _ rfl 27 27 rfl R _ Q ?_
  refine last_step m K c false 3 _ _ (off5_at c false) 7 (by decide) rfl rfl _ rfl 27 28 rfl R _ Q ?_
  exact hk

theorem amSend_phase (c : Dev nD) (R : sProp 𝕄) (k : P F) (Q : PUnit → sProp 𝕄) (hk : AS m K c 7 0 R ⊢ WP c k Q) :
    AS m K c 0 0 R ⊢ WP c (amSendP c k) Q := by
  unfold amSendP
  refine am_send m K c 0 _ (dev59_at c) 0 rfl R _ Q ?_
  refine am_send m K c 1 _ (dev60_at c) 1 rfl R _ Q ?_
  refine am_send m K c 2 _ (dev61_at c) 2 rfl R _ Q ?_
  refine am_send m K c 3 _ (dev62_at c) 3 rfl R _ Q ?_
  refine am_send m K c 4 _ (dev63_at c) 4 rfl R _ Q ?_
  refine am_send m K c 5 _ (dev64_at c) 5 rfl R _ Q ?_
  refine am_send m K c 6 _ (dev65_at c) 6 rfl R _ Q ?_
  exact hk

theorem amWait_phase (c : Dev nD) (R : sProp 𝕄) (k : P F) (Q : PUnit → sProp 𝕄) (hk : AS m K c 7 7 R ⊢ WP c k Q) :
    AS m K c 7 0 R ⊢ WP c (amWaitP k) Q := by
  unfold amWaitP
  refine am_wait m K c 0 0 rfl R _ Q ?_
  refine am_wait m K c 1 1 rfl R _ Q ?_
  refine am_wait m K c 2 2 rfl R _ Q ?_
  refine am_wait m K c 3 3 rfl R _ Q ?_
  refine am_wait m K c 4 4 rfl R _ Q ?_
  refine am_wait m K c 5 5 rfl R _ Q ?_
  refine am_wait m K c 6 6 rfl R _ Q ?_
  exact hk

theorem sent_phaseT (c : Dev nD) (R : sProp 𝕄) (k : P F) (Q : PUnit → sProp 𝕄) (hk : SS m K c true 28 R ⊢ WP c k Q) :
    SS m K c true 0 R ⊢ WP c (sentPT k) Q := by
  unfold sentPT
  refine sent_step m K c true 0 0 0 rfl R _ Q ?_
  refine sent_step m K c true 0 1 1 rfl R _ Q ?_
  refine sent_step m K c true 0 2 2 rfl R _ Q ?_
  refine sent_step m K c true 0 3 3 rfl R _ Q ?_
  refine sent_step m K c true 1 0 4 rfl R _ Q ?_
  refine sent_step m K c true 1 1 5 rfl R _ Q ?_
  refine sent_step m K c true 1 2 6 rfl R _ Q ?_
  refine sent_step m K c true 1 3 7 rfl R _ Q ?_
  refine sent_step m K c true 2 0 8 rfl R _ Q ?_
  refine sent_step m K c true 2 1 9 rfl R _ Q ?_
  refine sent_step m K c true 2 2 10 rfl R _ Q ?_
  refine sent_step m K c true 2 3 11 rfl R _ Q ?_
  refine sent_step m K c true 3 0 12 rfl R _ Q ?_
  refine sent_step m K c true 3 1 13 rfl R _ Q ?_
  refine sent_step m K c true 3 2 14 rfl R _ Q ?_
  refine sent_step m K c true 3 3 15 rfl R _ Q ?_
  refine sent_step m K c true 4 0 16 rfl R _ Q ?_
  refine sent_step m K c true 4 1 17 rfl R _ Q ?_
  refine sent_step m K c true 4 2 18 rfl R _ Q ?_
  refine sent_step m K c true 4 3 19 rfl R _ Q ?_
  refine sent_step m K c true 5 0 20 rfl R _ Q ?_
  refine sent_step m K c true 5 1 21 rfl R _ Q ?_
  refine sent_step m K c true 5 2 22 rfl R _ Q ?_
  refine sent_step m K c true 5 3 23 rfl R _ Q ?_
  refine sent_step m K c true 6 0 24 rfl R _ Q ?_
  refine sent_step m K c true 6 1 25 rfl R _ Q ?_
  refine sent_step m K c true 6 2 26 rfl R _ Q ?_
  refine sent_step m K c true 6 3 27 rfl R _ Q ?_
  exact hk

theorem sent_phaseF (c : Dev nD) (R : sProp 𝕄) (k : P F) (Q : PUnit → sProp 𝕄) (hk : SS m K c false 28 R ⊢ WP c k Q) :
    SS m K c false 0 R ⊢ WP c (sentPF k) Q := by
  unfold sentPF
  refine sent_step m K c false 0 0 0 rfl R _ Q ?_
  refine sent_step m K c false 0 1 1 rfl R _ Q ?_
  refine sent_step m K c false 0 2 2 rfl R _ Q ?_
  refine sent_step m K c false 0 3 3 rfl R _ Q ?_
  refine sent_step m K c false 1 0 4 rfl R _ Q ?_
  refine sent_step m K c false 1 1 5 rfl R _ Q ?_
  refine sent_step m K c false 1 2 6 rfl R _ Q ?_
  refine sent_step m K c false 1 3 7 rfl R _ Q ?_
  refine sent_step m K c false 2 0 8 rfl R _ Q ?_
  refine sent_step m K c false 2 1 9 rfl R _ Q ?_
  refine sent_step m K c false 2 2 10 rfl R _ Q ?_
  refine sent_step m K c false 2 3 11 rfl R _ Q ?_
  refine sent_step m K c false 3 0 12 rfl R _ Q ?_
  refine sent_step m K c false 3 1 13 rfl R _ Q ?_
  refine sent_step m K c false 3 2 14 rfl R _ Q ?_
  refine sent_step m K c false 3 3 15 rfl R _ Q ?_
  refine sent_step m K c false 4 0 16 rfl R _ Q ?_
  refine sent_step m K c false 4 1 17 rfl R _ Q ?_
  refine sent_step m K c false 4 2 18 rfl R _ Q ?_
  refine sent_step m K c false 4 3 19 rfl R _ Q ?_
  refine sent_step m K c false 5 0 20 rfl R _ Q ?_
  refine sent_step m K c false 5 1 21 rfl R _ Q ?_
  refine sent_step m K c false 5 2 22 rfl R _ Q ?_
  refine sent_step m K c false 5 3 23 rfl R _ Q ?_
  refine sent_step m K c false 6 0 24 rfl R _ Q ?_
  refine sent_step m K c false 6 1 25 rfl R _ Q ?_
  refine sent_step m K c false 6 2 26 rfl R _ Q ?_
  refine sent_step m K c false 6 3 27 rfl R _ Q ?_
  exact hk

theorem amSent_phase (c : Dev nD) (R : sProp 𝕄) (k : P F) (Q : PUnit → sProp 𝕄) (hk : AA m K c 7 R ⊢ WP c k Q) :
    AA m K c 0 R ⊢ WP c (amSentP k) Q := by
  unfold amSentP
  refine am_sent m K c 0 0 rfl R _ Q ?_
  refine am_sent m K c 1 1 rfl R _ Q ?_
  refine am_sent m K c 2 2 rfl R _ Q ?_
  refine am_sent m K c 3 3 rfl R _ Q ?_
  refine am_sent m K c 4 4 rfl R _ Q ?_
  refine am_sent m K c 5 5 rfl R _ Q ?_
  refine am_sent m K c 6 6 rfl R _ Q ?_
  exact hk

end Cert.KernelIdeal.Ring

end
-- ==== Proof.Slots.lean ====
/-
# Buffers slot by slot

The ring buffers and the scalars' buffer taken apart into their slots and put together again.
-/
module

public import proofs.«01_k».proof.Proof.Phases
public import Idealize.ShloMosaic.Lib.Ring

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cel → ℕ)

/-! ## Conjunctions over the index types -/

omit [FloatOps F] in
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl
omit [FloatOps F] in
theorem two (Φ : Bool → sProp 𝕄) : bigSep Finset.univ Φ = iprop(Φ true ∗ Φ false) := by
  rw [bigSep_univ_eq_bigSepL [true, false] (by decide) (by decide)]
  simp only [bigSepL_cons_cons, bigSepL_singleton]
  rfl
omit [FloatOps F] in
theorem twoProd {X : Type} [Fintype X] [DecidableEq X] (Φ : Bool × X → sProp 𝕄) :
    bigSep Finset.univ Φ = iprop(bigSep Finset.univ (fun x => Φ (true, x)) ∗ bigSep Finset.univ (fun x => Φ (false, x))) := by
  rw [bigSep_univ_prod, two]
omit [FloatOps F] in
/-- Over a device's own cells: by receive or send and by direction. -/
theorem own_split (Φ : Own → sProp 𝕄) : bigSep Finset.univ Φ =
    iprop(((bigSep Finset.univ (fun h : Hop => Φ (.inl (true, true, h))) ∗ bigSep Finset.univ (fun h : Hop => Φ (.inl (true, false, h))))
      ∗ (bigSep Finset.univ (fun h : Hop => Φ (.inl (false, true, h))) ∗ bigSep Finset.univ (fun h : Hop => Φ (.inl (false, false, h)))))
      ∗ (bigSep Finset.univ (fun o : Fin 7 => Φ (.inr (true, o))) ∗ bigSep Finset.univ (fun o : Fin 7 => Φ (.inr (false, o))))) := by
  rw [bigSep_univ_sum, twoProd (X := Bool × Hop) (fun x => Φ (.inl x)), twoProd (X := Hop) (fun x => Φ (.inl (true, x))),
    twoProd (X := Hop) (fun x => Φ (.inl (false, x))), twoProd (X := Fin 7) (fun x => Φ (.inr x))]
  rfl
omit [FloatOps F] in
/-- Over eight places: one and the seven others. -/
theorem eight (g : Fin 7 → Fin 8) (hg : Function.Injective g) (e : Fin 8) (he : Finset.univ = insert e (Finset.univ.map ⟨g, hg⟩)) (hn : e ∉ Finset.univ.map ⟨g, hg⟩)
    (Φ : Fin 8 → sProp 𝕄) : bigSep Finset.univ Φ = iprop(Φ e ∗ bigSep Finset.univ fun s => Φ (g s)) := by
  rw [he, bigSep_insert hn, bigSep_map]; rfl
omit [FloatOps F] in
/-- Over thirty-two slots: one row and the seven others. -/
theorem slots_split (g : Fin 7 → Fin 8) (hg : Function.Injective g) (e : Fin 8) (he : Finset.univ = insert e (Finset.univ.map ⟨g, hg⟩)) (hn : e ∉ Finset.univ.map ⟨g, hg⟩)
    (Φ : Fin 8 → Fin 4 → sProp 𝕄) :
    bigSep Finset.univ (fun p : Fin 8 × Fin 4 => Φ p.1 p.2) = iprop(bigSep Finset.univ (Φ e) ∗ bigSep Finset.univ fun h : Hop => Φ (g h.1) h.2) := by
  rw [bigSep_univ_prod, eight g hg e he hn, bigSep_univ_prod]

/-! ## The ring buffers -/

theorem slots_disj {p p' : Fin 8 × Fin 4} (h : p ≠ p') (dir : Bool) :
    Disjoint ((ringM dir).access (slotR p.1 p.2)).set ((ringM dir).access (slotR p'.1 p'.2)).set := by
  rw [View.set_slice, View.set_slice]
  refine (Finset.disjoint_map (ringM dir).view.emb).mpr ?_
  by_cases h1 : p.1 = p'.1
  · have h2 : p.2.val ≠ p'.2.val := fun h2 => h (Prod.ext h1 (Fin.ext h2))
    exact Rect.unit_disjoint (s := S8x4x512x256) 1 (by
      show p.2.val + 1 ≤ p'.2.val ∨ p'.2.val + 1 ≤ p.2.val; omega)
  · have h1' : p.1.val ≠ p'.1.val := fun h2 => h1 (Fin.ext h2)
    exact Rect.unit_disjoint (s := S8x4x512x256) 0 (by
      show p.1.val + 1 ≤ p'.1.val ∨ p'.1.val + 1 ≤ p.1.val; omega)

theorem mem_slot (i : S8x4x512x256.Idx) : i ∈ (slotR (i 0) (i 1)).set :=
  Rect.mem_set_unit.mpr fun a => match a with
    | ⟨0, _⟩ => ⟨le_refl (i 0).val, Nat.lt_succ_self _⟩
    | ⟨1, _⟩ => ⟨le_refl (i 1).val, Nat.lt_succ_self _⟩
    | ⟨2, _⟩ => ⟨Nat.zero_le _, (Nat.zero_add 512).symm ▸ (i 2).isLt⟩
    | ⟨3, _⟩ => ⟨Nat.zero_le _, (Nat.zero_add 256).symm ▸ (i 3).isLt⟩

/-- The elements of a slot. -/
def slotSet (c : Dev nD) (dir : Bool) (p : Fin 8 × Fin 4) : Finset (Idx ((ringM dir).view.loc (c : Thread nD τ))) :=
  ((ringM dir).access (slotR p.1 p.2)).set

theorem slots_cover (c : Dev nD) (dir : Bool) :
    (Finset.univ : Finset (Fin 8 × Fin 4)).biUnion (slotSet c dir) = Finset.univ := by
  cases dir
  · refine Finset.eq_univ_iff_forall.mpr fun (i : S8x4x512x256.Idx) => ?_
    exact Finset.mem_biUnion.mpr ⟨(i 0, i 1), Finset.mem_univ _, by
      show i ∈ ((View.whole cc0_scratch1).slice (slotR (i 0) (i 1))).set
      rw [View.set_slice_whole]; exact mem_slot i⟩
  · refine Finset.eq_univ_iff_forall.mpr fun (i : S8x4x512x256.Idx) => ?_
    exact Finset.mem_biUnion.mpr ⟨(i 0, i 1), Finset.mem_univ _, by
      show i ∈ ((View.whole cc0_scratch0).slice (slotR (i 0) (i 1))).set
      rw [View.set_slice_whole]; exact mem_slot i⟩

/-- Every slot at some contents. -/
def allSlots (c : Dev nD) (dir : Bool) : sProp 𝕄 := bigSep Finset.univ fun p : Fin 8 × Fin 4 => slotE c dir p.1 p.2
/-- A ring's buffer whole at some contents. -/
def ringE (c : Dev nD) (dir : Bool) : sProp 𝕄 := iprop(∃ f : Buf (Elt F) ((ringM dir).view.loc (c : Thread nD τ)), (ringM dir).view.loc (c : Thread nD τ) ↦{fullShare} f)

omit [FloatOps F] in
theorem ring_split (c : Dev nD) (dir : Bool) : (ringE c dir : sProp 𝕄) ⊢ allSlots c dir := by
  unfold ringE allSlots
  iintro ⟨%f, H⟩
  have e : ((ringM dir).view.loc (c : Thread nD τ) ↦{fullShare} f : sProp 𝕄) ⊢ bigSep Finset.univ fun p : Fin 8 × Fin 4 => slotE c dir p.1 p.2 := by
    have h2 : ∀ p ∈ (Finset.univ : Finset (Fin 8 × Fin 4)), (slotP c dir p.1 p.2 f : sProp 𝕄) ⊢ slotE c dir p.1 p.2 := by
      intro p _; unfold slotE; iintro H; iexists f; iexact H
    exact BIBase.Entails.trans (Entails.of_eq (Idealize.ShloMosaic.Ring.pointsTo_blocks (slotSet c dir)
      (fun p p' h => slots_disj h dir) (slots_cover c dir) f)) (bigSep_mono h2)
  iapply e; iexact H

theorem ring_join (c : Dev nD) (dir : Bool) : (allSlots c dir : sProp 𝕄) ⊢ ringE c dir := by
  have f₀ : Buf (Elt F) ((ringM dir).view.loc (c : Thread nD τ)) := by
    cases dir <;> exact fun _ => (zero0 : F .f32)
  exact Idealize.ShloMosaic.Ring.pointsTo_blocks_join_exists (slotSet c dir)
    (fun p p' h => slots_disj h dir) (slots_cover c dir) f₀

/-! ## The scalars' buffer -/

theorem am_disj {s s' : Fin 8} (h : s ≠ s') : Disjoint (aM.access (amR s)).set (aM.access (amR s')).set := by
  rw [View.set_slice, View.set_slice]
  refine (Finset.disjoint_map aM.view.emb).mpr ?_
  have h1 : s.val ≠ s'.val := fun h2 => h (Fin.ext h2)
  exact Rect.unit_disjoint (s := S8x1x128) 0 (by show s.val + 1 ≤ s'.val ∨ s'.val + 1 ≤ s.val; omega)
theorem mem_am (i : S8x1x128.Idx) : i ∈ (amR (i 0)).set :=
  Rect.mem_set_unit.mpr fun a => match a with
    | ⟨0, _⟩ => ⟨le_refl (i 0).val, Nat.lt_succ_self _⟩
    | ⟨1, _⟩ => ⟨Nat.zero_le _, (Nat.zero_add 1).symm ▸ (i 1).isLt⟩
    | ⟨2, _⟩ => ⟨Nat.zero_le _, (Nat.zero_add 128).symm ▸ (i 2).isLt⟩
def amSet (c : Dev nD) (s : Fin 8) : Finset (Idx ((c : Thread nD τ).loc cc0_scratch2)) := (aM.access (amR s)).set
theorem am_cover (c : Dev nD) :
    (Finset.univ : Finset (Fin 8)).biUnion (amSet c) = Finset.univ :=
  Finset.eq_univ_iff_forall.mpr fun i => Finset.mem_biUnion.mpr ⟨i 0, Finset.mem_univ _, by
      show i ∈ ((View.whole cc0_scratch2).slice (amR (i 0))).set
      rw [View.set_slice_whole]; exact mem_am i⟩

def amAll (c : Dev nD) : sProp 𝕄 := iprop(∃ f : Buf (Elt F) ((c : Thread nD τ).loc cc0_scratch2), ((c : Thread nD τ).loc cc0_scratch2) ↦{fullShare} f)

omit [FloatOps F] in
theorem am_split (c : Dev nD) : (amAll c : sProp 𝕄) ⊢ bigSep Finset.univ fun s : Fin 8 => amE c s := by
  unfold amAll
  iintro ⟨%f, H⟩
  have e : (((c : Thread nD τ).loc cc0_scratch2) ↦{fullShare} f : sProp 𝕄) ⊢ bigSep Finset.univ fun s : Fin 8 => amE c s := by
    have h2 : ∀ s ∈ (Finset.univ : Finset (Fin 8)), (amP fullShare c s f : sProp 𝕄) ⊢ amE c s := by
      intro s _; unfold amE; iintro H; iexists f; iexact H
    exact BIBase.Entails.trans (Entails.of_eq (Idealize.ShloMosaic.Ring.pointsTo_blocks (amSet c)
      (fun p p' h => am_disj h) (am_cover c) f)) (bigSep_mono h2)
  iapply e; iexact H

theorem am_join (c : Dev nD) : (bigSep Finset.univ fun s : Fin 8 => (amE c s : sProp 𝕄)) ⊢ amAll c :=
  Idealize.ShloMosaic.Ring.pointsTo_blocks_join_exists (amSet c)
    (fun p p' h => am_disj h) (am_cover c) (fun _ => (zero0 : F .f32))

/-- A copy's share given back. -/
theorem amV_join (c : Dev nD) (o : ℕ) (l : F .f32) : iprop(amV (shr o) c 7 l ∗ amV (shrRest (o + 1)) c 7 l) ⊢ (amV (shrRest o) c 7 l : sProp 𝕄) := by
  unfold amV amP
  show (_ : sProp 𝕄) ⊢ _
  have hj : ∀ f, iprop(amP (shr o) c 7 f ∗ amP (shrRest (o + 1)) c 7 f) ⊢ (amP (shrRest o) c 7 f : sProp 𝕄) := fun f => by
    unfold amP; exact (pointsTo_share (PosShare.mem_left_op_right (shrRest o))).2
  unfold amP at hj
  iintro ⟨⟨%f, %hf, H1⟩, %g, %hg, H2⟩
  have e : (((c : Thread nD τ).loc cc0_scratch2) ↦[(aM.access (amR 7)).set]{shrRest (o + 1)} g : sProp 𝕄) = ((c : Thread nD τ).loc cc0_scratch2) ↦[(aM.access (amR 7)).set]{shrRest (o + 1)} f := by
    refine pointsTo_congr fun i hi => ?_
    obtain ⟨y, -, rfl⟩ := Finset.mem_map.mp hi
    exact congrFun (hg.trans hf.symm) y
  ihave H2 := (Entails.of_eq e) $$ H2
  iexists f
  isplitr; · ipureintro; exact hf
  iapply hj
  isplitl [H1]; · iexact H1
  iexact H2

theorem amV_back (c : Dev nD) (l : F .f32) :
    iprop(amV (shrRest 7) c 7 l ∗ bigSep Finset.univ fun o : Fin 7 => amV (shr o.val) c 7 l) ⊢ (amE c 7 : sProp 𝕄) := by
  rw [seven]
  iintro ⟨H, H0, H1, H2, H3, H4, H5, H6⟩
  ihave H := (amV_join c 6 l) $$ [H6 H]
  · isplitl [H6]; · iexact H6
    iexact H
  ihave H := (amV_join c 5 l) $$ [H5 H]
  · isplitl [H5]; · iexact H5
    iexact H
  ihave H := (amV_join c 4 l) $$ [H4 H]
  · isplitl [H4]; · iexact H4
    iexact H
  ihave H := (amV_join c 3 l) $$ [H3 H]
  · isplitl [H3]; · iexact H3
    iexact H
  ihave H := (amV_join c 2 l) $$ [H2 H]
  · isplitl [H2]; · iexact H2
    iexact H
  ihave H := (amV_join c 1 l) $$ [H1 H]
  · isplitl [H1]; · iexact H1
    iexact H
  ihave H := (amV_join c 0 l) $$ [H0 H]
  · isplitl [H0]; · iexact H0
    iexact H
  unfold amV amE
  icases H with ⟨%f, -, H⟩
  iexists f; iexact H

end Cert.KernelIdeal.Ring

end
-- ==== Proof.Body.lean ====
/-
# The kernel's body

One device's run of the whole kernel from what the launch gives it to what it leaves.
-/
module

public import proofs.«01_k».proof.Proof.Slots

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cel → ℕ)

omit [FloatOps F] in
theorem bigSep_two {I : Type} (s : Finset I) (Φ Ψ : I → sProp 𝕄) : bigSep s (fun i => iprop(Φ i ∗ Ψ i)) = iprop(bigSep s (fun i => Φ i) ∗ bigSep s (fun i => Ψ i)) :=
  BI.bigSep_sep s Φ Ψ
omit [FloatOps F] in
theorem bigSep_at {I : Type} [Fintype I] [DecidableEq I] (i : I) (Φ : I → sProp 𝕄) : bigSep Finset.univ (fun i => Φ i) ⊢ Φ i := bigSep_elim (Finset.mem_univ i)

/-! ## The barrier -/

/-- The barrier: both neighbours told, both heard, their empty landing slots received. -/
theorem wp_barrier (c l r : Dev nD) (hl : l = dev c 7) (hr : r = dev c 1) (k : P F) (Q : PUnit → sProp 𝕄) :
    iprop(Ctx m K ∗ OW c (O₀ c) ∗ atPos ER (cell c none) 0 ∅ 0 ∗ cred (tallyAt (cell c none) () 2)
        ∗ dutyTok ER (cell (dev c 7) none) 0 true ∗ dutyTok ER (cell (dev c 1) none) 0 false
        ∗ barPay (dev c 7) true ∗ barPay (dev c 1) false
        ∗ ((OW c (O₂ c) ∗ semVal (cell c none) 0 ∗ barPay c true ∗ barPay c false) -∗ WP c k Q))
      ⊢ WP c (barrierStep l r k) Q := by
  subst hl hr
  have hd : ∀ (b : Bool) (d : Dev nD), b ∈ (sched m).duties ((d : Thread nD τ), .reg (sig.barrier 0 rfl)) 0 := fun b d => by
    have h : b ∈ (sched m).duties (cell d none) 0 := by rw [duties_cell m d none]; exact Finset.mem_univ _
    exact h
  have ha : ∀ (b : Bool) (d : Dev nD), (sched m).amount ((d : Thread nD τ), .reg (sig.barrier 0 rfl)) 0 b = (1#32 : BitVec 32).toNat := fun b d =>
    (amount_cell m d none b).trans rfl
  have hp : ∀ (b : Bool) (d : Dev nD), barPay d b ⊢ (sched m).payload ((d : Thread nD τ), .reg (sig.barrier 0 rfl)) 0 b := fun b d =>
    Entails.of_eq (payload_cell m d none b).symm
  have hx : (0 : ℕ) + 2 = (sched m).expect ((c : Thread nD τ), .reg (sig.barrier 0 rfl)) 0 := (expect_bar m c).symm
  unfold barrierStep OW Ctx WP
  iintro ⟨⟨#HR, #Hlev⟩, ⟨%W, HO⟩, Hat, Hc, Ht7, Ht1, Hp7, Hp1, Hk⟩
  unfold O₀
  iapply (Rounds.wp_signal 𝒱₀ ER (sched m) (c : Thread nD τ) none (dst := (dev c 7 : Thread nD τ)) (κ := K (dev c 7, none))
      (d := true) (hd true (dev c 7)) (ha true (dev c 7)) () (O₁ c) rfl)
    $$ [HO Ht7 Hp7]
  · isplitr; · iapply (inv_at m K (dev c 7) none); iexact HR
    isplitl [HO]; · iexact HO
    isplitl [Ht7]; · iexact Ht7
    isplitl [Hp7]; · iapply (hp true (dev c 7)); iexact Hp7
    iapply (reached_at m K (dev c 7) none); iexact HR
  iintro HO
  unfold O₁
  iapply (Rounds.wp_signal 𝒱₀ ER (sched m) (c : Thread nD τ) none (dst := (dev c 1 : Thread nD τ)) (κ := K (dev c 1, none))
      (d := false) (hd false (dev c 1)) (ha false (dev c 1)) () (O₂ c) rfl)
    $$ [HO Ht1 Hp1]
  · isplitr; · iapply (inv_at m K (dev c 1) none); iexact HR
    isplitl [HO]; · iexact HO
    isplitl [Ht1]; · iexact Ht1
    isplitl [Hp1]; · iapply (hp false (dev c 1)); iexact Hp1
    iapply (reached_at m K (dev c 1) none); iexact HR
  iintro HO
  have hab : Above 1 (O₂ c) := above_add (above_owD c true (by omega)) (above_add (above_owD c false (by omega)) (above_owA c 0 (by omega)))
  iapply (Rounds.wp_wait_rest_token 𝒱₀ ER (sched m) (c : Thread nD τ) none (κ := K (c, none))
      (wpE_semWait_eq 𝒱₀ (c : Thread nD τ) none Set.univ) (Set.mem_univ _) () (O := O₂ c) (W := W) (R := 0) (m := 0) (T := ∅)
      hx) $$ [Hc HO Hat]
  · isplitr; · iapply (inv_at m K c none); iexact HR
    isplitl [Hc]; · iexact Hc
    isplitl [HO]; · iexact HO
    isplitr; · iapply (mayWait (F := F) (c := c) (sm := .reg (sig.barrier 0 rfl)) 1 hab (by rw [show ((c : Thread nD τ), SemLoc.reg (sig.barrier 0 rfl)) = cell c none from rfl, lv_cell]; exact le_rfl)); iexact Hlev
    iexact Hat
  iintro ⟨HO, Hat, -, Hpay⟩
  have hro : bigSep ((sched m).duties ((c : Thread nD τ), .reg (sig.barrier 0 rfl)) 0 \ ∅) (fun d => (sched m).payload ((c : Thread nD τ), .reg (sig.barrier 0 rfl)) 0 d) ⊢ iprop(barPay c true ∗ barPay c false) :=
    Entails.of_eq (rest_bar m c)
  ihave Hp := hro $$ Hpay
  icases Hp with ⟨HpT, HpF⟩
  imod (Rounds.cell_close ER (sched m) (Set.mem_univ (K (c, none))) (fun h => h) (R := 0 + 1) (duties_later m (cell c none))) $$ [Hat] with Hz
  · isplitr; · iapply (inv_at m K c none); iexact HR
    iexact Hat
  iapply Hk
  isplitl [HO]; · iexists _; iexact HO
  isplitl [Hz]; · iexact Hz
  isplitl [HpT]; · iexact HpT
  iexact HpF

/-! ## What the launch gives, regrouped -/

/-- A direction's tickets: the duties of the sends and of the landings, the waits. -/
def ringTk (c : Dev nD) (dir : Bool) : sProp 𝕄 :=
  iprop((bigSep Finset.univ fun h : Hop => dutyTok ER (cell c (kSnd dir h.1 h.2)) 0 false)
    ∗ (bigSep Finset.univ fun h : Hop => dutyTok ER (cell (fwd dir c) (kRcv dir h.1 h.2)) 0 false)
    ∗ bigSep Finset.univ (wt c dir)
    ∗ bigSep Finset.univ fun h : Hop => atPos ER (cell c (kSnd dir h.1 h.2)) 0 ∅ 0)
/-- The scalars' tickets. -/
def amTk (c : Dev nD) : sProp 𝕄 :=
  iprop((bigSep Finset.univ fun o : Fin 7 => dutyTok ER (cell c (kAsnd o)) 0 false)
    ∗ (bigSep Finset.univ fun o : Fin 7 => dutyTok ER (cell (dev c (o.val + 1)) (kArcv o)) 0 false)
    ∗ bigSep Finset.univ (awt c)
    ∗ bigSep Finset.univ fun o : Fin 7 => atPos ER (cell c (kAsnd o)) 0 ∅ 0)

theorem dir_intro (c : Dev nD) (dir : Bool) :
    iprop(ringTk c dir ∗ barPay c dir) ⊢ (iprop(Dir c dir 0 0 ∗ bigSep Finset.univ fun h : Hop => atPos ER (cell c (kSnd dir h.1 h.2)) 0 ∅ 0) : sProp 𝕄) := by
  unfold Dir ringTk barPay
  rw [rest_zero, done_zero, bigSep_empty, bigSep_empty]
  have e : (iprop((bigSep Finset.univ fun h : Hop => dutyTok ER (cell c (kSnd dir h.1 h.2)) 0 false)
    ∗ (bigSep Finset.univ fun h : Hop => dutyTok ER (cell (fwd dir c) (kRcv dir h.1 h.2)) 0 false)
    ∗ bigSep Finset.univ fun h : Hop => slotE (fwd dir c) dir h.1.castSucc h.2) : sProp 𝕄) ⊢ bigSep Finset.univ (tok c dir) := by
    show _ ⊢ bigSep Finset.univ fun h => tok c dir h
    unfold tok
    rw [bigSep_two, bigSep_two]
  iintro ⟨⟨H1, H2, H3, H4⟩, H5⟩
  isplitr [H4]
  · isplitl [H1 H2 H5]
    · iapply e
      isplitl [H1]; · iexact H1
      isplitl [H2]; · iexact H2
      iexact H5
    isplitl [H3]; · iexact H3
    isplitr <;> iempintro
  iexact H4

omit [FloatOps F] in
theorem amX_emp (d : Dev nD) (dir : Bool) (s : ℕ) (ch : Fin 4) (h : ¬(dir = false ∧ ch = 0)) : (iprop(emp) : sProp 𝕄) ⊢ amX d dir s ch := by
  unfold amX; rw [if_neg h]

omit [FloatOps F] in
theorem amX_own (c : Dev nD) : (bigSep Finset.univ fun o : Fin 7 => (amE c o.castSucc : sProp 𝕄)) ⊢ amX (fwd false c) false 0 0 := by
  unfold amX; rw [if_pos ⟨rfl, rfl⟩, restA_zero, show dev (fwd false c) (0 + 1) = c from fwd_frm true c]

omit [FloatOps F] in
theorem first_emp (c : Dev nD) (dir : Bool) (ch : Fin 4) (d : Dev nD) (h : ¬(dir = false ∧ ch = 0)) :
    (slotE c dir 7 ch : sProp 𝕄) ⊢ iprop(slotE c dir 7 ch ∗ amX d dir 0 ch) := by
  iintro H
  isplitl [H]; · iexact H
  iapply (amX_emp d dir 0 ch h)
  iempintro

theorem firsts_intro (c : Dev nD) (R : sProp 𝕄) :
    iprop((bigSep Finset.univ fun ch : Fin 4 => slotE c true 7 ch) ∗ (bigSep Finset.univ fun ch : Fin 4 => slotE c false 7 ch)
      ∗ (bigSep Finset.univ fun o : Fin 7 => amE c o.castSucc) ∗ R) ⊢ firsts c R := by
  unfold firsts
  rw [four, four]
  iintro ⟨⟨T0, T1, T2, T3⟩, ⟨F0, F1, F2, F3⟩, HA, HR⟩
  isplitl [T0]; · iapply (first_emp c true 0 _ (by decide)); iexact T0
  isplitl [F0 HA]
  · isplitl [F0]; · iexact F0
    iapply (amX_own c); iexact HA
  isplitl [T1]; · iapply (first_emp c true 1 _ (by decide)); iexact T1
  isplitl [F1]; · iapply (first_emp c false 1 _ (by decide)); iexact F1
  isplitl [T2]; · iapply (first_emp c true 2 _ (by decide)); iexact T2
  isplitl [F2]; · iapply (first_emp c false 2 _ (by decide)); iexact F2
  isplitl [T3]; · iapply (first_emp c true 3 _ (by decide)); iexact T3
  isplitl [F3]; · iapply (first_emp c false 3 _ (by decide)); iexact F3
  iexact HR

/-- A ring's landings taken apart. -/
theorem landed_split (c : Dev nD) (dir : Bool) : bigSep Finset.univ (landed c dir) ⊢
    (iprop((bigSep Finset.univ fun h : Hop => semVal (cell c (kRcv dir h.1 h.2)) 0) ∗ bigSep Finset.univ (amK c dir) ∗ bigSep Finset.univ fun ch : Fin 4 => slotE c dir 6 ch) : sProp 𝕄) := by
  show (bigSep Finset.univ fun h => landed c dir h) ⊢ _
  unfold landed
  rw [bigSep_two, bigSep_two]
  have e : (bigSep Finset.univ fun h : Hop => (if h.1 = 6 then slotE c dir 6 h.2 else iprop(emp) : sProp 𝕄)) ⊢ bigSep Finset.univ fun ch : Fin 4 => slotE c dir 6 ch := by
    rw [bigSep_univ_prod (fun h : Hop => (if h.1 = 6 then slotE c dir 6 h.2 else iprop(emp) : sProp 𝕄))]
    refine BIBase.Entails.trans (bigSep_at (6 : Fin 7) _) ?_
    exact bigSep_mono fun ch _ => Entails.of_eq (show (if (6 : Fin 7) = 6 then slotE c dir 6 ch else iprop(emp) : sProp 𝕄) = slotE c dir 6 ch from if_pos rfl)
  iintro ⟨H1, H2, H3⟩
  isplitl [H1]; · iexact H1
  isplitl [H2]; · iexact H2
  iapply e; iexact H3

omit [FloatOps F] in
theorem amK_split (c : Dev nD) : bigSep Finset.univ (amK c false) ⊢ (bigSep Finset.univ fun o : Fin 7 => amE (dev c (o.val + 1)) o.castSucc : sProp 𝕄) := by
  show (bigSep Finset.univ fun h => amK c false h) ⊢ _
  rw [bigSep_univ_prod (fun h : Hop => amK c false h)]
  refine bigSep_mono fun o _ => ?_
  refine BIBase.Entails.trans (bigSep_at (0 : Fin 4) _) ?_
  exact Entails.of_eq (if_pos ⟨rfl, rfl⟩)

theorem atok_intro (c : Dev nD) : iprop((bigSep Finset.univ fun o : Fin 7 => dutyTok ER (cell c (kAsnd o)) 0 false)
    ∗ (bigSep Finset.univ fun o : Fin 7 => dutyTok ER (cell (dev c (o.val + 1)) (kArcv o)) 0 false)
    ∗ (bigSep Finset.univ fun o : Fin 7 => amE (dev c (o.val + 1)) o.castSucc)) ⊢ (bigSep Finset.univ fun o => atok c o : sProp 𝕄) := by
  unfold atok
  rw [bigSep_two, bigSep_two]

theorem swt_intro (c : Dev nD) (dir : Bool) : iprop((bigSep Finset.univ fun h : Hop => atPos ER (cell c (kSnd dir h.1 h.2)) 0 ∅ 0) ∗ bigSep Finset.univ fun h => sent c dir h)
    ⊢ (bigSep Finset.univ fun h => swt c dir h : sProp 𝕄) := by
  unfold swt
  rw [bigSep_two]
theorem aswt_intro (c : Dev nD) : iprop((bigSep Finset.univ fun o : Fin 7 => atPos ER (cell c (kAsnd o)) 0 ∅ 0) ∗ bigSep Finset.univ fun o => asent c o)
    ⊢ (bigSep Finset.univ fun o => aswt c o : sProp 𝕄) := by
  unfold aswt
  rw [bigSep_two]

/-! ## The buffers back -/

theorem ring_back (c : Dev nD) (dir : Bool) : iprop((bigSep Finset.univ fun h => sgot c dir h) ∗ bigSep Finset.univ fun ch : Fin 4 => slotE c dir 6 ch)
    ⊢ (iprop((bigSep Finset.univ fun h : Hop => semVal (cell c (kSnd dir h.1 h.2)) 0) ∗ ringE c dir) : sProp 𝕄) := by
  unfold sgot
  rw [bigSep_two]
  iintro ⟨⟨H1, H2⟩, H3⟩
  isplitl [H1]; · iexact H1
  iapply (ring_join c dir)
  unfold allSlots
  rw [slots_split srcS (by decide) 6 (by decide) (by decide) (fun s ch => slotE c dir s ch)]
  isplitl [H3]; · iexact H3
  iexact H2

theorem ring_start (c : Dev nD) (dir : Bool) : (ringE c dir : sProp 𝕄) ⊢
    iprop((bigSep Finset.univ fun ch : Fin 4 => slotE c dir 7 ch) ∗ barPay (frm dir c) dir) := by
  refine BIBase.Entails.trans (ring_split c dir) ?_
  unfold allSlots barPay
  rw [slots_split Fin.castSucc (Fin.castSucc_injective 7) 7 (by decide) (by decide) (fun s ch => slotE c dir s ch), fwd_frm]

omit [FloatOps F] in
theorem am_start (c : Dev nD) : (amAll c : sProp 𝕄) ⊢ iprop(amE c 7 ∗ bigSep Finset.univ fun o : Fin 7 => amE c o.castSucc) := by
  refine BIBase.Entails.trans (am_split c) ?_
  rw [eight Fin.castSucc (Fin.castSucc_injective 7) 7 (by decide) (by decide) (fun s => amE c s)]

theorem amV_any (q : PosShare TreeShare) (c : Dev nD) (s : Fin 8) (l : F .f32) : (amV fullShare c s l : sProp 𝕄) ⊢ amE c s := by
  unfold amV amE
  iintro ⟨%f, -, H⟩; iexists f; iexact H

theorem am_back (c : Dev nD) : iprop((bigSep Finset.univ fun o => agot m c o) ∗ (bigSep Finset.univ fun o => asgot m c o) ∗ amV (shrRest 7) c 7 (lm m c))
    ⊢ (iprop((bigSep Finset.univ fun o : Fin 7 => semVal (cell c (kArcv o)) 0) ∗ (bigSep Finset.univ fun o : Fin 7 => semVal (cell c (kAsnd o)) 0) ∗ amAll c) : sProp 𝕄) := by
  unfold agot asgot
  rw [bigSep_two, bigSep_two]
  have e : (bigSep Finset.univ fun o : Fin 7 => (amV fullShare c o.castSucc (lm m (dev c (7 - o.val))) : sProp 𝕄)) ⊢ bigSep Finset.univ fun o : Fin 7 => amE c o.castSucc :=
    bigSep_mono fun o _ => amV_any fullShare c o.castSucc _
  iintro ⟨⟨H1, H2⟩, ⟨H3, H4⟩, H5⟩
  isplitl [H1]; · iexact H1
  isplitl [H3]; · iexact H3
  iapply (am_join c)
  rw [eight Fin.castSucc (Fin.castSucc_injective 7) 7 (by decide) (by decide) (fun s => amE c s)]
  isplitl [H4 H5]
  · iapply (amV_back c (lm m c))
    isplitl [H5]; · iexact H5
    iexact H4
  iapply e; iexact H2

/-! ## The run -/

/-- What device `c` starts the kernel from. -/
def Pre (c : Dev nD) : sProp 𝕄 :=
  iprop(Ctx m K ∗ XW m c ∗ OW c (O₀ c) ∗ (∃ f : Buf (Elt F) ((c : Thread nD τ).loc cc0_stg2_0), ((c : Thread nD τ).loc cc0_stg2_0) ↦{fullShare} f)
    ∗ ringE c true ∗ ringE c false ∗ amAll c
    ∗ (atPos ER (cell c none) 0 ∅ 0 ∗ cred (tallyAt (cell c none) () 2) ∗ dutyTok ER (cell (dev c 7) none) 0 true ∗ dutyTok ER (cell (dev c 1) none) 0 false)
    ∗ ringTk c true ∗ ringTk c false ∗ amTk c)
/-- What it leaves. -/
def Post (c : Dev nD) : sProp 𝕄 :=
  iprop(OW c 0 ∗ XW m c ∗ (((c : Thread nD τ).loc cc0_stg2_0) ↦{fullShare} resV m c)
    ∗ semVal (cell c none) 0 ∗ (bigSep Finset.univ fun k : Own => semVal (cell c (some k)) 0)
    ∗ ringE c true ∗ ringE c false ∗ amAll c)

/-- What is kept of a ring while its sources are waited for. -/
def kept (c : Dev nD) (dir : Bool) : sProp 𝕄 :=
  iprop((bigSep Finset.univ fun h : Hop => semVal (cell c (kRcv dir h.1 h.2)) 0) ∗ bigSep Finset.univ fun ch : Fin 4 => slotE c dir 6 ch)
def W4 (c : Dev nD) : sProp 𝕄 :=
  iprop(XW m c ∗ (((c : Thread nD τ).loc cc0_stg2_0) ↦{fullShare} resV m c) ∗ semVal (cell c none) 0 ∗ kept c true ∗ kept c false
    ∗ (bigSep Finset.univ fun o => agot m c o) ∗ amV (shrRest 7) c 7 (lm m c))

theorem run_ret (c : Dev nD) :
    AA m K c 7 iprop((bigSep Finset.univ fun h => sgot c true h) ∗ (bigSep Finset.univ fun h => sgot c false h) ∗ W4 m c) ⊢ WP c (.ret ⟨⟩) (fun _ => Post m c) := by
  unfold AA WP W4 kept Post
  rw [wp_ret, doneA_all, own_split]
  iintro ⟨-, HO, -, Has, HsT, HsF, HX, Hout, Hb, ⟨HrT, H6T⟩, ⟨HrF, H6F⟩, Hag, Hv⟩
  ihave HT := (ring_back c true) $$ [HsT H6T]
  · isplitl [HsT]; · iexact HsT
    iexact H6T
  ihave HF := (ring_back c false) $$ [HsF H6F]
  · isplitl [HsF]; · iexact HsF
    iexact H6F
  ihave HA := (am_back m c) $$ [Has Hag Hv]
  · isplitl [Hag]; · iexact Hag
    isplitl [Has]; · iexact Has
    iexact Hv
  icases HT with ⟨HzT, HT⟩
  icases HF with ⟨HzF, HF⟩
  icases HA with ⟨Hza, Hzs, HA⟩
  imodintro
  isplitl [HO]; · iexact HO
  isplitl [HX]; · iexact HX
  isplitl [Hout]; · iexact Hout
  isplitl [Hb]; · iexact Hb
  isplitl [HrT HrF HzT HzF Hza Hzs]
  · isplitl [HrT HrF HzT HzF]
    · isplitl [HrT HrF]
      · isplitl [HrT]; · iexact HrT
        iexact HrF
      · isplitl [HzT]; · iexact HzT
        iexact HzF
    · isplitl [Hza]; · iexact Hza
      iexact Hzs
  isplitl [HT]; · iexact HT
  isplitl [HF]; · iexact HF
  iexact HA

/-- From the finished chunks' quantisation on. -/
theorem run_sent (c : Dev nD) :
    SS m K c true 0 iprop((bigSep Finset.univ fun h => swt c false h) ∗ (bigSep Finset.univ fun o => aswt c o) ∗ W4 m c)
      ⊢ WP c (sentPT <| sentPF <| amSentP <| .ret ⟨⟩) (fun _ => Post m c) := by
  refine sent_phaseT m K c _ _ _ ?_
  have h1 : SS m K c true 28 iprop((bigSep Finset.univ fun h => swt c false h) ∗ (bigSep Finset.univ fun o => aswt c o) ∗ W4 m c)
      ⊢ SS m K c false 0 iprop((bigSep Finset.univ fun h => sgot c true h) ∗ (bigSep Finset.univ fun o => aswt c o) ∗ W4 m c) := by
    unfold SS
    rw [rest_zero, done_zero, rest_all, done_all, bigSep_empty, bigSep_empty]
    iintro ⟨HC, HO, -, Hg, Hw, Ha, HW⟩
    isplitl [HC]; · iexact HC
    isplitl [HO]; · iexact HO
    isplitl [Hw]; · iexact Hw
    isplitr; · iempintro
    isplitl [Hg]; · iexact Hg
    isplitl [Ha]; · iexact Ha
    iexact HW
  refine BIBase.Entails.trans h1 (sent_phaseF m K c _ _ _ ?_)
  have h2 : SS m K c false 28 iprop((bigSep Finset.univ fun h => sgot c true h) ∗ (bigSep Finset.univ fun o => aswt c o) ∗ W4 m c)
      ⊢ AA m K c 0 iprop((bigSep Finset.univ fun h => sgot c true h) ∗ (bigSep Finset.univ fun h => sgot c false h) ∗ W4 m c) := by
    unfold SS AA
    rw [restA_zero, doneA_zero, rest_all, done_all, bigSep_empty, bigSep_empty]
    iintro ⟨HC, HO, -, Hg, Hw, Ha, HW⟩
    isplitl [HC]; · iexact HC
    isplitl [HO]; · iexact HO
    isplitl [Ha]; · iexact Ha
    isplitr; · iempintro
    isplitl [Hw]; · iexact Hw
    isplitl [Hg]; · iexact Hg
    iexact HW
  exact BIBase.Entails.trans h2 (amSent_phase m K c _ _ _ (run_ret m K c))

/-- What goes beside the scalars' exchange. -/
def W2 (c : Dev nD) : sProp 𝕄 :=
  iprop(OutOk m c 8 ∗ XW m c ∗ semVal (cell c none) 0 ∗ kept c true ∗ kept c false
    ∗ (bigSep Finset.univ fun h => swt c true h) ∗ (bigSep Finset.univ fun h => swt c false h)
    ∗ bigSep Finset.univ fun o : Fin 7 => atPos ER (cell c (kAsnd o)) 0 ∅ 0)

theorem run_quant (c : Dev nD) :
    AS m K c 7 7 (W2 m c) ⊢ WP c (quantStep (lm m c) <| sentPT <| sentPF <| amSentP <| .ret ⟨⟩) (fun _ => Post m c) := by
  refine BIBase.Entails.trans ?_ (wp_quant m c _ _)
  unfold AS W2
  rw [owA_all, restA_all, bigSep_empty, bigSep_empty]
  iintro ⟨HC, HO, Hv, -, Hsn, -, Hg, Hout, HX, Hb, HkT, HkF, HsT, HsF, Hat⟩
  isplitl [Hg]; · iexact Hg
  isplitl [Hout]; · iexact Hout
  rw [doneA_all]
  iintro ⟨Hg, Hout⟩
  iapply (run_sent m K c)
  unfold SS W4
  rw [rest_zero, done_zero, bigSep_empty]
  isplitl [HC]; · iexact HC
  isplitl [HO]; · iexact HO
  isplitl [HsT]; · iexact HsT
  isplitr; · iempintro
  isplitl [HsF]; · iexact HsF
  isplitl [Hat Hsn]
  · iapply (aswt_intro c)
    isplitl [Hat]; · iexact Hat
    iexact Hsn
  isplitl [HX]; · iexact HX
  isplitl [Hout]; · iexact Hout
  isplitl [Hb]; · iexact Hb
  isplitl [HkT]; · iexact HkT
  isplitl [HkF]; · iexact HkF
  isplitl [Hg]; · iexact Hg
  iexact Hv

/-- What goes beside the rings. -/
def W1 (c : Dev nD) : sProp 𝕄 :=
  iprop(amE c 7 ∗ amTk c ∗ semVal (cell c none) 0
    ∗ (bigSep Finset.univ fun h : Hop => atPos ER (cell c (kSnd true h.1 h.2)) 0 ∅ 0) ∗ (bigSep Finset.univ fun h : Hop => atPos ER (cell c (kSnd false h.1 h.2)) 0 ∅ 0))

theorem run_scalars (c : Dev nD) : St m K c true 28 28 28 28 iprop(OutOk m c 8 ∗ W1 c) ⊢
    WP c (amStore (lm m c) <| amSendP c <| amWaitP <| quantStep (lm m c) <| sentPT <| sentPF <| amSentP <| .ret ⟨⟩) (fun _ => Post m c) := by
  refine BIBase.Entails.trans ?_ (wp_amStore c (lm m c) _ _)
  unfold St Dir W1 amTk
  rw [rest_all, done_all, owD_all, owD_all, zero_add, zero_add, Bool.not_true]
  rw [bigSep_empty, bigSep_empty, bigSep_empty, bigSep_empty]
  iintro ⟨HC, HX, HO, ⟨-, -, HsT, HlT⟩, ⟨-, -, HsF, HlF⟩, Hout, H7, ⟨Ht1, Ht2, Haw, Hat⟩, Hb, HpT, HpF⟩
  isplitl [H7]; · iexact H7
  iintro Hv
  iapply (amSend_phase m K c (W2 m c) _ _ (amWait_phase m K c (W2 m c) _ _ (run_quant m K c)))
  ihave HT := (landed_split c true) $$ HlT
  icases HT with ⟨HrT, -, H6T⟩
  ihave HF := (landed_split c false) $$ HlF
  icases HF with ⟨HrF, HK, H6F⟩
  ihave HK := (amK_split c) $$ HK
  unfold AS W2 kept
  rw [restA_zero, doneA_zero, bigSep_empty, bigSep_empty]
  isplitl [HC]; · iexact HC
  isplitl [HO]; · iexact HO
  isplitl [Hv]; · iexact Hv
  isplitl [Ht1 Ht2 HK]
  · iapply (atok_intro c)
    isplitl [Ht1]; · iexact Ht1
    isplitl [Ht2]; · iexact Ht2
    iexact HK
  isplitr; · iempintro
  isplitl [Haw]; · iexact Haw
  isplitr; · iempintro
  isplitl [Hout]; · iexact Hout
  isplitl [HX]; · iexact HX
  isplitl [Hb]; · iexact Hb
  isplitl [HrT H6T]
  · isplitl [HrT]; · iexact HrT
    iexact H6T
  isplitl [HrF H6F]
  · isplitl [HrF]; · iexact HrF
    iexact H6F
  isplitl [HpT HsT]
  · iapply (swt_intro c true)
    isplitl [HpT]; · iexact HpT
    iexact HsT
  isplitl [HpF HsF]
  · iapply (swt_intro c false)
    isplitl [HpF]; · iexact HpF
    iexact HsF
  iexact Hat

theorem run_rings (c : Dev nD) : St m K c true 0 0 0 0 (firsts c iprop(OutOk m c 0 ∗ W1 c)) ⊢
    WP c (initP c <| midP1 c <| midP2 c <| midP3 c <| midP4 c <| midP5 c <| midP6 c <|
      endP c fun l8 => amStore l8 <| amSendP c <| amWaitP <| quantStep l8 <| sentPT <| sentPF <| amSentP <| .ret ⟨⟩) (fun _ => Post m c) := by
  refine init_phase m K c _ _ _ ?_
  refine mid_phase1 m K c _ _ _ ?_
  refine mid_phase2 m K c _ _ _ ?_
  refine mid_phase3 m K c _ _ _ ?_
  refine mid_phase4 m K c _ _ _ ?_
  refine mid_phase5 m K c _ _ _ ?_
  refine mid_phase6 m K c _ _ _ ?_
  exact end_phase m K c _ _ _ (run_scalars m K c)

/-- Device `c`'s whole run. -/
theorem run_body (c : Dev nD) : Pre m K c ⊢ WP c (body c) (fun _ => Post m c) := by
  rw [body_phases]
  refine BIBase.Entails.trans ?_ (wp_barrier m K c _ _ (dev1_at c) (dev2_at c) _ _)
  unfold Pre
  iintro ⟨#HC, HX, HO, ⟨%f, Hout⟩, HT, HF, HA, ⟨Hat, Hcr, Hd7, Hd1⟩, HkT, HkF, Ham⟩
  ihave HT := (ring_start c true) $$ HT
  icases HT with ⟨H7T, HpT⟩
  ihave HF := (ring_start c false) $$ HF
  icases HF with ⟨H7F, HpF⟩
  ihave HA := (am_start c) $$ HA
  icases HA with ⟨HA7, HA⟩
  isplitr; · iexact HC
  isplitl [HO]; · iexact HO
  isplitl [Hat]; · iexact Hat
  isplitl [Hcr]; · iexact Hcr
  isplitl [Hd7]; · iexact Hd7
  isplitl [Hd1]; · iexact Hd1
  isplitl [HpT]; · iexact HpT
  isplitl [HpF]; · iexact HpF
  iintro ⟨HO, Hb, HbT, HbF⟩
  ihave HDT := (dir_intro c true) $$ [HkT HbT]
  · isplitl [HkT]; · iexact HkT
    iexact HbT
  icases HDT with ⟨HDT, HsT⟩
  ihave HDF := (dir_intro c false) $$ [HkF HbF]
  · isplitl [HkF]; · iexact HkF
    iexact HbF
  icases HDF with ⟨HDF, HsF⟩
  iapply (run_rings m K c)
  unfold St
  isplitr; · iexact HC
  isplitl [HX]; · iexact HX
  isplitl [HO]; · unfold O₂; iexact HO
  isplitl [HDT]; · iexact HDT
  isplitl [HDF]; · iexact HDF
  iapply (firsts_intro c)
  isplitl [H7T]; · iexact H7T
  isplitl [H7F]; · iexact H7F
  isplitl [HA]; · iexact HA
  unfold OutOk W1
  isplitl [Hout]
  · iexists f
    isplitr; · ipureintro; exact fun i hi => absurd hi (Nat.not_lt_zero i)
    iexact Hout
  isplitl [HA7]; · iexact HA7
  isplitl [Ham]; · iexact Ham
  isplitl [Hb]; · iexact Hb
  isplitl [HsT]; · iexact HsT
  iexact HsF

end Cert.KernelIdeal.Ring

end
-- ==== Proof.Deal.lean ====
/-
# The launch's ghost state dealt to the devices

Every cell's round state, positions and duties minted, the duties passed to the devices that pay them, and the credit
each device starts with.
-/
module

public import proofs.«01_k».proof.Proof.Body
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- Over all cells of a device: the barrier and its own. -/
theorem cel_split (Φ : Cel → sProp 𝕄) : bigSep Finset.univ Φ = iprop(Φ none ∗ bigSep Finset.univ fun k : Own => Φ (some k)) := by
  have h : (Finset.univ : Finset Cel) = insert none (Finset.univ.map ⟨some, Option.some_injective Own⟩) := by
    ext k; cases k <;> simp
  rw [h, bigSep_insert (by simp), bigSep_map]; rfl

/-! ## Duties -/

/-- Where the device that pays an own cell's duty finds the cell. -/
def tgtE : Own → Dev nD ≃ Dev nD
  | .inl (true, dir, _) => toE dir
  | .inl (false, _, _) => Equiv.refl _
  | .inr (true, o) => rot (o.val + 1) (by have := o.isLt; omega)
  | .inr (false, _) => Equiv.refl _

theorem kcell_injective : Function.Injective (fun ck : Dev nD × Cel => cell ck.1 ck.2) := fun a b h =>
  Prod.ext (cell_inj h).1 (cell_inj h).2
def ringCells : Finset (GSem nD τ sig) := Finset.univ.map ⟨_, kcell_injective⟩

/-- The duties as minted: an own cell's one, the barrier's two. -/
def tokOf (cj : Dev nD × (Own ⊕ Bool)) : GSem nD τ sig × ℕ × Bool := match cj.2 with
  | .inl k => (cell cj.1 (some k), 0, false)
  | .inr b => (cell cj.1 none, 0, b)
theorem tokOf_injective : Function.Injective tokOf := by
  rintro ⟨c, k | b⟩ ⟨c', k' | b'⟩ h
  · obtain ⟨h1, h2⟩ := cell_inj (congrArg Prod.fst h); exact Prod.ext h1 (congrArg Sum.inl (Option.some.inj h2))
  · obtain ⟨h1, h2⟩ := cell_inj (congrArg Prod.fst h); cases h2
  · obtain ⟨h1, h2⟩ := cell_inj (congrArg Prod.fst h); cases h2
  · obtain ⟨h1, -⟩ := cell_inj (congrArg Prod.fst h)
    exact Prod.ext h1 (congrArg Sum.inr (congrArg (fun x : GSem nD τ sig × ℕ × Bool => x.2.2) h))
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duties of a device's own cells and of its barrier. -/
def toks (c : Dev nD) : sProp 𝕄 :=
  iprop((bigSep Finset.univ fun k : Own => dutyTok ER (cell c (some k)) 0 false) ∗ dutyTok ER (cell c none) 0 true ∗ dutyTok ER (cell c none) 0 false)
/-- The duties a device pays. -/
def payToks (c : Dev nD) : sProp 𝕄 :=
  iprop((bigSep Finset.univ fun k : Own => dutyTok ER (cell (tgtE k c) (some k)) 0 false) ∗ dutyTok ER (cell (dev c 7) none) 0 true ∗ dutyTok ER (cell (dev c 1) none) 0 false)

def G (c : Dev nD) : sProp 𝕄 :=
  iprop((bigSep Finset.univ fun k : Cel => roundState ER (sched m) (cell c k) 0)
    ∗ (bigSep Finset.univ fun k : Cel => iprop(atPos ER (cell c k) 0 ∅ 0 ∗ reached ER (cell c k) 0)) ∗ toks c)

/-- What stays with a device: its positions and the duties it pays. -/
def linear (c : Dev nD) : sProp 𝕄 := iprop((bigSep Finset.univ fun k : Cel => atPos ER (cell c k) 0 ∅ 0) ∗ payToks c)
def G' (c : Dev nD) : sProp 𝕄 := iprop(∃ K, records m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cel => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, two]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Own => semVal (cell c (some k)) 0 := rfl
omit [FloatOps F] in
set_option maxRecDepth 20000 in
/-- The barrier semaphore is the launch's one unscoped semaphore. -/
theorem unscopedSems0_eq (c : Dev nD) : (unscopedSems0 c : sProp 𝕄) = semVal (cell c none) 0 := by
  unfold unscopedSems0; rw [bigSep_eq_bigSepL_of_eq [SemLoc.reg (sig.barrier 0 rfl)] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cel => semVal (cell c k) 0 : sProp 𝕄) := by
  rw [ownSems0_eq, unscopedSems0_eq, cel_split]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cel => iprop(∃ κ : ℕ, cellInv ER (sched m) κ (cell c k)))
          ∗ (bigSep Finset.univ fun k : Cel => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cel => semVal (cell c k) 0) ∗ bigSep Finset.univ fun k : Cel => roundState ER (sched m) (cell c k) 0)
      ⊢ (|={Set.univ}=> bigSep Finset.univ fun k : Cel => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Every duty carried to the device that pays it. -/
def tokE : Dev nD × Own ≃ Dev nD × Own :=
  ⟨fun p => (tgtE p.2 p.1, p.2), fun p => ((tgtE p.2).symm p.1, p.2),
    fun p => Prod.ext ((tgtE p.2).symm_apply_apply p.1) rfl, fun p => Prod.ext ((tgtE p.2).apply_symm_apply p.1) rfl⟩

omit [FloatOps F] in
theorem toks_around : (bigSep Finset.univ fun c : Dev nD => (toks c : sProp 𝕄)) ⊢ bigSep Finset.univ fun c : Dev nD => payToks c := by
  have h1 : (bigSep Finset.univ fun c : Dev nD => bigSep Finset.univ fun k : Own => (dutyTok ER (cell c (some k)) 0 false : sProp 𝕄))
      = bigSep Finset.univ fun c : Dev nD => bigSep Finset.univ fun k : Own => dutyTok ER (cell (tgtE k c) (some k)) 0 false := by
    rw [← bigSep_univ_prod (fun p : Dev nD × Own => (dutyTok ER (cell p.1 (some p.2)) 0 false : sProp 𝕄)), bigSep_univ_equiv tokE, bigSep_univ_prod]
    rfl
  unfold toks payToks
  rw [bigSep_sep', bigSep_sep', bigSep_sep', bigSep_sep', h1,
    bigSep_univ_equiv (rot 7 (by decide)) (fun c : Dev nD => (dutyTok ER (cell c none) 0 true : sProp 𝕄)),
    bigSep_univ_equiv (rot 1 (by decide)) (fun c : Dev nD => (dutyTok ER (cell c none) 0 false : sProp 𝕄))]
  exact BIBase.Entails.refl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cel → ℕ) (c : Dev nD) : iprop(records m K ∗ linear c) ⊢ G' m c := by
  unfold G'
  iintro H
  iexists K; iexact H

theorem regroup :
    (bigSep Finset.univ fun c : Dev nD => iprop((bigSep Finset.univ fun k : Cel => iprop(∃ κ : ℕ, cellInv ER (sched m) κ (cell c k)))
          ∗ (bigSep Finset.univ fun k : Cel => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : Dev nD × Cel => iprop(∃ κ : ℕ, cellInv ER (sched m) κ (cell ck.1 ck.2))),
    bigSep_congr (s := Finset.univ) (fun (c : Dev nD) _ => bigSep_sep' Finset.univ (fun k : Cel => (atPos ER (cell c k) 0 ∅ 0 : sProp 𝕄)) (fun k => reached ER (cell c k) 0)),
    bigSep_sep', ← bigSep_univ_prod (fun ck : Dev nD × Cel => (reached ER (cell ck.1 ck.2) 0 : sProp 𝕄))]
  iintro ⟨HI, ⟨Hat, #HR⟩, Htok⟩
  ihave HK := (BI.bigSep_exists_pi Finset.univ (fun (ck : Dev nD × Cel) (κ : ℕ) => (cellInv ER (sched m) κ (cell ck.1 ck.2) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Cel => (atPos ER (cell c k) 0 ∅ 0 : sProp 𝕄)) payToks).symm)
    isplitl [Hat]; · iexact Hat
    iexact Htk

/-- The global step: every device's cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credit -/

theorem sum_tally (e : Dev nD ≃ Dev nD) (k' : Cel) (n : ℕ) (c : Dev nD) (k : Cel) :
    ∑ d : Dev nD, (tallyAt (cell (e d) k') () n : CellTallies nD τ sig Unit) (cell c k) () = if k' = k then n else 0 := by
  rw [← Equiv.sum_comp e.symm]
  by_cases h : k' = k
  · subst h
    rw [if_pos rfl, Finset.sum_eq_single c]
    · rw [tallyAt_apply, e.apply_symm_apply, if_pos ⟨rfl, rfl⟩]
    · intro d _ hd
      rw [tallyAt_apply, e.apply_symm_apply, if_neg fun h => hd (cell_inj h.1).1.symm]
    · intro h; exact absurd (Finset.mem_univ c) h
  · rw [if_neg h]
    refine Finset.sum_eq_zero fun d _ => ?_
    rw [tallyAt_apply, if_neg fun h' => h (cell_inj h'.1).2.symm]

theorem apply_sum {I : Type} (s : Finset I) (f : I → CellTallies nD τ sig Unit) (g : GSem nD τ sig) : (∑ i ∈ s, f i) g () = ∑ i ∈ s, f i g () := by
  rw [Finset.sum_apply, Finsupp.finset_sum_apply]

theorem sum_owD (dir : Bool) (c : Dev nD) (k : Cel) : ∑ d : Dev nD, owD d dir 0 (cell c k) () = ∑ h : Hop, if kRcv dir h.1 h.2 = k then N else 0 := by
  unfold owD
  rw [Finset.sum_congr rfl fun d _ => apply_sum _ _ _, Finset.sum_comm, rest_zero]
  exact Finset.sum_congr rfl fun h _ => sum_tally (toE dir) (kRcv dir h.1 h.2) N c k
theorem sum_owA (c : Dev nD) (k : Cel) : ∑ d : Dev nD, owA d 0 (cell c k) () = ∑ o : Fin 7, if kArcv o = k then NA else 0 := by
  unfold owA
  rw [Finset.sum_congr rfl fun d _ => apply_sum _ _ _, Finset.sum_comm, restA_zero]
  exact Finset.sum_congr rfl fun o _ => sum_tally (rot (o.val + 1) (by have := o.isLt; omega)) (kArcv o) NA c k

theorem sum_O₀ (c : Dev nD) (k : Cel) : ∑ d : Dev nD, O₀ d (cell c k) () =
    (∑ h : Hop, if kRcv true h.1 h.2 = k then N else 0) + ((∑ h : Hop, if kRcv false h.1 h.2 = k then N else 0) + ∑ o : Fin 7, if kArcv o = k then NA else 0)
      + (if (none : Cel) = k then 1 else 0) + (if (none : Cel) = k then 1 else 0) := by
  have e7 := sum_tally (rot 7 (by decide)) none 1 c k
  have e1 := sum_tally (rot 1 (by decide)) none 1 c k
  have e (d : Dev nD) : O₀ d (cell c k) () = owD d true 0 (cell c k) () + (owD d false 0 (cell c k) () + owA d 0 (cell c k) ())
      + (tallyAt (cell (rot 1 (by decide) d) none) () 1 : CellTallies nD τ sig Unit) (cell c k) () + (tallyAt (cell (rot 7 (by decide) d) none) () 1 : CellTallies nD τ sig Unit) (cell c k) () := rfl
  rw [Finset.sum_congr rfl fun d _ => e d, Finset.sum_add_distrib, Finset.sum_add_distrib, Finset.sum_add_distrib, Finset.sum_add_distrib, e7, e1,
    sum_owD, sum_owD, sum_owA]

theorem sum_none {I : Type} [Fintype I] (P : I → Prop) [DecidablePred P] (n : ℕ) (h : ∀ i, ¬ P i) : (∑ i, if P i then n else 0) = 0 :=
  Finset.sum_eq_zero fun i _ => if_neg (h i)
theorem sum_one {I : Type} [Fintype I] [DecidableEq I] (P : I → Prop) [DecidablePred P] (n : ℕ) (j : I) (hj : P j) (h : ∀ i, P i → i = j) :
    (∑ i, if P i then n else 0) = n := by
  rw [Finset.sum_eq_single j (fun i _ hi => if_neg fun e => hi (h i e)) (fun hh => absurd (Finset.mem_univ j) hh), if_pos hj]

/-- The credit a cell starts with. -/
def credOf : Cel → ℕ
  | none => 2
  | some (.inl (true, _)) => N
  | some (.inr (true, _)) => NA
  | _ => 0

theorem some_inl {r d : Bool} {i h : Hop} (e : (some (.inl (r, d, i)) : Cel) = some (.inl (r, d, h))) : i = h := by
  injection e with e; injection e with e; exact congrArg (fun x : Bool × Bool × Hop => x.2.2) e
theorem some_inr {r : Bool} {i o : Fin 7} (e : (some (.inr (r, i)) : Cel) = some (.inr (r, o))) : i = o := by
  injection e with e; injection e with e; exact congrArg (fun x : Bool × Fin 7 => x.2) e

theorem sum_O₀_eq (c : Dev nD) (k : Cel) (hk : 0 < credOf k) : ∑ d : Dev nD, O₀ d (cell c k) () = credOf k := by
  rw [sum_O₀]
  match k, hk with
  | none, _ =>
    rw [if_pos rfl, sum_none _ _ (fun h e => nomatch e), sum_none _ _ (fun h e => nomatch e), sum_none _ _ (fun h e => nomatch e)]; rfl
  | some (.inl (true, true, h)), _ =>
    rw [if_neg (fun e => nomatch e), sum_one (fun j : Hop => kRcv true j.1 j.2 = some (.inl (true, true, h))) N h rfl (fun i e => some_inl e),
      sum_none _ _ (fun h e => nomatch e), sum_none _ _ (fun h e => nomatch e)]; rfl
  | some (.inl (true, false, h)), _ =>
    rw [if_neg (fun e => nomatch e), sum_none _ _ (fun h e => nomatch e), sum_one (fun j : Hop => kRcv false j.1 j.2 = some (.inl (true, false, h))) N h rfl (fun i e => some_inl e),
      sum_none _ _ (fun h e => nomatch e)]
    show 0 + (N + 0) + 0 + 0 = N
    omega
  | some (.inr (true, o)), _ =>
    rw [if_neg (fun e => nomatch e), sum_none _ _ (fun h e => nomatch e), sum_none _ _ (fun h e => nomatch e),
      sum_one (fun j : Fin 7 => kArcv j = some (.inr (true, o))) NA o rfl (fun i e => some_inr e)]
    show 0 + (0 + NA) + 0 + 0 = NA
    omega

/-- The credit of the cells a device waits on. -/
def creds (c : Dev nD) : sProp 𝕄 := bigSep Finset.univ fun k : Cel => iprop(if 0 < credOf k then cred (tallyAt (cell c k) () (credOf k)) else emp)

theorem csem_map : Function.Injective csem := csem_injective

omit [FloatOps F] in
theorem creds_intro (c : Dev nD) : (Pipeline.launchCred O₀ c : sProp 𝕄) ⊢ creds c := by
  unfold Pipeline.launchCred creds
  refine BIBase.Entails.trans (show (_ : sProp 𝕄) ⊢ _ from bigSep_subset (Finset.subset_univ (Finset.univ.map ⟨csem, csem_map⟩))) ?_
  rw [bigSep_map]
  refine bigSep_mono fun k _ => ?_
  by_cases hk : 0 < credOf k
  · rw [if_pos hk]
    refine Entails.of_eq (congrArg cred ?_)
    show tallyOn (cell c k) (launchCredit (Pipeline.owing O₀) 0 (cell c k)) = _
    unfold tallyAt; refine congrArg _ (Finsupp.ext fun u => ?_); cases u
    rw [Pipeline.launchCredit_owing, Finsupp.single_eq_same, sum_O₀_eq c k hk]
  · rw [if_neg hk]
    show (_ : sProp 𝕄) ⊢ iprop(emp)
    iintro -; iempintro

omit [FloatOps F] in
theorem creds_split (c : Dev nD) : (creds c : sProp 𝕄) ⊢ iprop(cred (tallyAt (cell c none) () 2)
    ∗ (bigSep Finset.univ fun h : Hop => cred (tallyAt (cell c (kRcv true h.1 h.2)) () N)) ∗ (bigSep Finset.univ fun h : Hop => cred (tallyAt (cell c (kRcv false h.1 h.2)) () N))
    ∗ bigSep Finset.univ fun o : Fin 7 => cred (tallyAt (cell c (kArcv o)) () NA)) := by
  unfold creds
  rw [cel_split, own_split]
  have e (dir : Bool) : (bigSep Finset.univ fun h : Hop => (iprop(if 0 < credOf (some (.inl (true, dir, h))) then cred (tallyAt (cell c (some (.inl (true, dir, h)))) () (credOf (some (.inl (true, dir, h))))) else emp) : sProp 𝕄))
      ⊢ bigSep Finset.univ fun h : Hop => cred (tallyAt (cell c (kRcv dir h.1 h.2)) () N) :=
    bigSep_mono fun h _ => show (_ : sProp 𝕄) ⊢ _ from Entails.of_eq (if_pos (show 0 < credOf (some (.inl (true, dir, h))) from N_pos))
  have eA : (bigSep Finset.univ fun o : Fin 7 => (iprop(if 0 < credOf (some (.inr (true, o))) then cred (tallyAt (cell c (some (.inr (true, o)))) () (credOf (some (.inr (true, o))))) else emp) : sProp 𝕄))
      ⊢ bigSep Finset.univ fun o : Fin 7 => cred (tallyAt (cell c (kArcv o)) () NA) :=
    bigSep_mono fun h _ => show (_ : sProp 𝕄) ⊢ _ from Entails.of_eq (if_pos (show 0 < credOf (some (.inr (true, h))) from NA_pos))
  have e0 : (iprop(if 0 < credOf none then cred (tallyAt (cell c none) () (credOf none)) else emp) : sProp 𝕄) ⊢ cred (tallyAt (cell c none) () 2) :=
    Entails.of_eq (if_pos (by decide))
  iintro ⟨H0, ⟨⟨HT, HF⟩, -⟩, HA, -⟩
  isplitl [H0]; · iapply e0; iexact H0
  isplitl [HT]; · iapply (e true); iexact HT
  isplitl [HF]; · iapply (e false); iexact HF
  iapply eA; iexact HA

/-! ## The tickets -/

omit [FloatOps F] in
/-- A device's positions, duties and credit, as its run takes them. -/
theorem tickets (c : Dev nD) : iprop(linear c ∗ creds c) ⊢ (iprop(
    (atPos ER (cell c none) 0 ∅ 0 ∗ cred (tallyAt (cell c none) () 2)
      ∗ dutyTok ER (cell (dev c 7) none) 0 true ∗ dutyTok ER (cell (dev c 1) none) 0 false) ∗ ringTk c true ∗ ringTk c false ∗ amTk c) : sProp 𝕄) := by
  unfold linear payToks
  have eP := cel_split (F := F) (fun k : Cel => (atPos ER (cell c k) 0 ∅ 0 : sProp 𝕄))
  have eO := own_split (F := F) (fun k : Own => (atPos ER (cell c (some k)) 0 ∅ 0 : sProp 𝕄))
  have eT := own_split (F := F) (fun k : Own => (dutyTok ER (cell (tgtE k c) (some k)) 0 false : sProp 𝕄))
  have hw (dir : Bool) : iprop((bigSep Finset.univ fun h : Hop => (atPos ER (cell c (some (.inl (true, dir, h)))) 0 ∅ 0 : sProp 𝕄))
      ∗ (bigSep Finset.univ fun h : Hop => cred (tallyAt (cell c (kRcv dir h.1 h.2)) () N))) ⊢ bigSep Finset.univ (wt c dir) := by
    rw [← bigSep_sep']; exact BIBase.Entails.refl
  have hA : iprop((bigSep Finset.univ fun o : Fin 7 => (atPos ER (cell c (some (.inr (true, o)))) 0 ∅ 0 : sProp 𝕄))
      ∗ (bigSep Finset.univ fun o : Fin 7 => cred (tallyAt (cell c (kArcv o)) () NA))) ⊢ bigSep Finset.univ (awt c) := by
    rw [← bigSep_sep']; exact BIBase.Entails.refl
  iintro ⟨⟨HP, HT, Hb7, Hb1⟩, HC⟩
  ihave HP := (Entails.of_eq eP) $$ HP
  icases HP with ⟨HP0, HPO⟩
  ihave HPO := (Entails.of_eq eO) $$ HPO
  icases HPO with ⟨⟨⟨PrT, PrF⟩, PsT, PsF⟩, Par, Pas⟩
  ihave HT := (Entails.of_eq eT) $$ HT
  icases HT with ⟨⟨⟨TrT, TrF⟩, TsT, TsF⟩, Tar, Tas⟩
  ihave HC := (creds_split (F := F) c) $$ HC
  icases HC with ⟨C0, CT, CF, CA⟩
  isplitl [HP0 C0 Hb7 Hb1]
  · isplitl [HP0]; · iexact HP0
    isplitl [C0]; · iexact C0
    isplitl [Hb7] <;> iassumption
  isplitl [PrT PsT TrT TsT CT]
  · unfold ringTk
    isplitl [TsT]; · iexact TsT
    isplitl [TrT]; · iexact TrT
    isplitl [PrT CT]
    · iapply (hw true); isplitl [PrT]; · iexact PrT
      iexact CT
    iexact PsT
  isplitl [PrF PsF TrF TsF CF]
  · unfold ringTk
    isplitl [TsF]; · iexact TsF
    isplitl [TrF]; · iexact TrF
    isplitl [PrF CF]
    · iapply (hw false); isplitl [PrF]; · iexact PrF
      iexact CF
    iexact PsF
  unfold amTk
  isplitl [Tas]; · iexact Tas
  isplitl [Tar]; · iexact Tar
  isplitl [Par CA]
  · iapply hA; isplitl [Par]; · iexact Par
    iexact CA
  iexact Pas

end Cert.KernelIdeal.Ring

end
-- ==== Proof.Run.lean ====
/-
# The kernel's run

At the mesh of eight devices, for any float values, from any memory with zero counters: every weakly fair execution
ends, every device's result is the computed contents, the operands are unchanged and every counter is zero.
-/
module

public import proofs.«01_k».proof.Proof.Deal

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The starting state. -/
def s₀ : MemSt nD τ sig (Elt F) := ⟨m, fun _ => 0, ρ⟩

/-- What a device starts from besides its buffers. -/
def start (c : Dev nD) : sProp 𝕄 := iprop(G' m c ∗ creds c ∗ levAts L lv)
def Φ₀ (c : Dev nD) : sProp 𝕄 := iprop(start m c ∗ ringE c true ∗ ringE c false ∗ amAll c)
def Φ₁ (c : Dev nD) : sProp 𝕄 :=
  iprop(semVal (cell c none) 0 ∗ (bigSep Finset.univ fun k : Own => semVal (cell c (some k)) 0) ∗ ringE c true ∗ ringE c false ∗ amAll c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => resV m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_x (c : Dev nD) (d) : (dats m ρ 0 c).before (0 : Fin 3) t0_0 d = xs m c := by
  unfold Dat.before; rw [if_pos (fetch0_0 _)]; rfl
theorem before_w (c : Dev nD) (d) : (dats m ρ 0 c).before (1 : Fin 3) t0_0 d = ws m c := by
  unfold Dat.before; rw [if_pos (fetch0_1 _)]; rfl

/-- A staging buffer whole at given contents, as the pipeline states it. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xs m c) ∗ stg c cc0_stg1_0 (ws m c) ∗ stg c cc0_stg2_0 (resV m c))

theorem pre_intro (c : Dev nD) : bodyPre m ρ c ⊢ iprop(∃ K, Pre m K c) := by
  unfold bodyPre Φ₀ start G'
  simp only [before_x, before_w]
  unfold stg
  iintro ⟨⟨⟨⟨%K, HR, HL⟩, HC, Hlv⟩, HrT, HrF, Ham⟩, HO, ⟨%d0, %f0, %e0, H0⟩, ⟨%d1, %f1, %e1, H1⟩, ⟨%d2, %f2, -, H2⟩⟩
  subst e0 e1
  iexists K
  unfold Pre Ctx XW OW
  ihave HT := (tickets (F := F) c) $$ [HL HC]
  · isplitl [HL] <;> iassumption
  icases HT with ⟨HB, HT, HF, HA⟩
  isplitl [HR Hlv]; · isplitl [HR] <;> iassumption
  isplitl [H0 H1]; · isplitl [H0] <;> iassumption
  isplitl [HO]
  · unfold Dat.owesAt Pipeline.owesWithin
    icases HO with ⟨%W, -, HO⟩
    iexists W; iexact HO
  isplitl [H2]; · iexists f2; iexact H2
  isplitl [HrT]; · iexact HrT
  isplitl [HrF]; · iexact HrF
  isplitl [Ham]; · iexact Ham
  isplitl [HB]; · iexact HB
  isplitl [HT]; · iexact HT
  isplitl [HF]; · iexact HF
  iexact HA

theorem post_elim (c : Dev nD) : Post m c ⊢ bodyPost m ρ c := by
  unfold Post bodyPost Φ₁ XW OW stg
  iintro ⟨⟨%W, HO⟩, ⟨H0, H1⟩, H2, HB, HS, HrT, HrF, Ham⟩
  isplitl [HB HS HrT HrF Ham]
  · isplitl [HB]; · iexact HB
    isplitl [HS]; · iexact HS
    isplitl [HrT]; · iexact HrT
    isplitl [HrF]; · iexact HrF
    iexact Ham
  isplitl [HO]
  · unfold Dat.owesAt Pipeline.owesWithin
    iexists W
    isplitr
    · ipureintro; exact fun _ _ => Or.inl trivial
    iexact HO
  isplitl [H0]; · iexists (xs m c); isplitr; · ipureintro; rfl
                  iexact H0
  isplitl [H1]; · iexists (ws m c); isplitr; · ipureintro; rfl
                  iexact H1
  iexists (resV m c); isplitr; · ipureintro; rfl
  iexact H2

theorem wp_body (c : Dev nD) : bodyPre m ρ c ⊢ wp frame (wpE (defs₀ (F := F)) 𝒱₀ (c : Thread nD τ) none) Set.univ
    (cc0_body (F := F) xM (Memref.isWhole_whole _) wM (Memref.isWhole_whole _) oM (Memref.isWhole_whole _)
      (ringM true) (Memref.isWhole_whole _) (ringM false) (Memref.isWhole_whole _) aM (Memref.isWhole_whole _)
      cc0_scratch3 cc0_scratch4 cc0_scratch5 cc0_scratch6 cc0_scratch7 cc0_scratch8) (fun _ => bodyPost m ρ c) := by
  rw [body_eq]
  refine (pre_intro m ρ c).trans ?_
  rw [wp_deviceId]
  iintro ⟨%K, H⟩
  iapply ((run_body m K c).trans (wp_mono _ _ _ fun _ => post_elim m ρ c))
  iexact H

set_option maxRecDepth 65536 in
/-- The library's body obligation. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact wp_body m ρ c

/-! ## The launch -/

theorem ownSemFacts : Pipeline.OwnSemFacts cfg0.spec osem := by
  refine ⟨fun k => ?_, fun a b h => ?_, fun k w s h => ?_⟩
  · rcases k with ⟨r, dir, s, ch⟩ | ⟨r, o⟩
    · revert r dir s ch; decide
    · revert r o; decide
  · exact Option.some.inj (csem_injective (show csem (some a) = csem (some b) from h))
  · have h1 := (kindOf_osem k).symm.trans (congrArg kindOf h)
    have h2 : kindOf (.dma ((cfg0.win w).sem s)) = none := by fin_cases w <;> fin_cases s <;> decide
    exact nomatch h1.trans h2

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  have e := scopedRest0_eq (Ix := Unit) (Val := Elt F) (Name := ℕ) (U := UU) (Lvl := ℕ) c
  unfold Φ₀
  iintro ⟨Hs, -, Hr⟩
  ihave Hr := (Entails.of_eq e) $$ Hr
  icases Hr with ⟨H0, H1, H2⟩
  isplitl [Hs]; · iexact Hs
  isplitl [H0]; · iapply (Entails.of_eq (show (iprop(∃ f : Buf (Elt F) ((c : Thread nD τ).loc cc0_scratch0), ((c : Thread nD τ).loc cc0_scratch0) ↦{fullShare} f) : sProp 𝕄) = ringE c true from rfl)); iexact H0
  isplitl [H1]; · iapply (Entails.of_eq (show (iprop(∃ f : Buf (Elt F) ((c : Thread nD τ).loc cc0_scratch1), ((c : Thread nD τ).loc cc0_scratch1) ↦{fullShare} f) : sProp 𝕄) = ringE c false from rfl)); iexact H1
  iapply (Entails.of_eq (show (iprop(∃ f : Buf (Elt F) ((c : Thread nD τ).loc cc0_scratch2), ((c : Thread nD τ).loc cc0_scratch2) ↦{fullShare} f) : sProp 𝕄) = amAll c from rfl)); iexact H2

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  have e := scopedRest0_eq (Ix := Unit) (Val := Elt F) (Name := ℕ) (U := UU) (Lvl := ℕ) c
  unfold Φ₁
  iintro ⟨HB, HS, HrT, HrF, Ham⟩
  isplitl [HB]; · iexact HB
  isplitl [HS]; · iexact HS
  iapply (Entails.of_eq e.symm)
  isplitl [HrT]; · iapply (Entails.of_eq (show ringE c true = (iprop(∃ f : Buf (Elt F) ((c : Thread nD τ).loc cc0_scratch0), ((c : Thread nD τ).loc cc0_scratch0) ↦{fullShare} f) : sProp 𝕄) from rfl)); iexact HrT
  isplitl [HrF]; · iapply (Entails.of_eq (show ringE c false = (iprop(∃ f : Buf (Elt F) ((c : Thread nD τ).loc cc0_scratch1), ((c : Thread nD τ).loc cc0_scratch1) ↦{fullShare} f) : sProp 𝕄) from rfl)); iexact HrF
  iapply (Entails.of_eq (show amAll c = (iprop(∃ f : Buf (Elt F) ((c : Thread nD τ).loc cc0_scratch2), ((c : Thread nD τ).loc cc0_scratch2) ↦{fullShare} f) : sProp 𝕄) from rfl)); iexact Ham

theorem above_O₀ (c : Dev nD) : Above 0 (O₀ c) := by
  unfold O₀ O₁ O₂
  exact above_add (above_add (above_add (above_owD c true (by omega)) (above_add (above_owD c false (by omega)) (above_owA c 0 (by decide)))) (above_tally (by decide))) (above_tally (by decide))
theorem above_none : Above 0 (0 : CellTallies nD τ sig Unit) := fun g u hg => absurd hg (Nat.lt_irrefl 0)

theorem stage_low (c : Dev nD) (w : Fin cfg0.W) (s) : lv ((c : Thread nD τ), SemLoc.dma ((cfg0.win w).sem s)) () ≤ 0 := by
  show lvK (kindOf (SemLoc.dma ((cfg0.win w).sem s))) ≤ 0
  fin_cases w <;> fin_cases s <;> decide

theorem waits (c : Dev nD) : (levAts L lv : sProp 𝕄) ⊢ Pipeline.cellsWaits cfgs (dats m ρ) () 0 c :=
  Pipeline.cellsWaits_intro cfgs (dats m ρ) () 0 c fun w s t =>
    mayWait 0 (by
      rcases t with ⟨_ | _, ht⟩
      · exact above_O₀ c
      · exact above_none) (stage_low c w s)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- The kernel's run on the mesh ends with every device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold what they held. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.KernelIdeal.Ring

end
-- ==== Proof.Frames.lean ====
/-
# The frames

The kernel's run is proved once, over any float values; here it is read at the float bits and at the extended reals, and
the reference's run at the extended reals.
-/
module

public import proofs.«01_k».proof.Defs
public import proofs.«01_k».proof.Proof.Gen.Kernel
public import proofs.«01_k».proof.Proof.Run
public import proofs.«01_k».proof.Proof.Gen.ReferenceIdeal.Run
public import Idealize.ShloMosaic.Adequacy

@[expose] public section

noncomputable section

namespace Cert.Proof

open Idealize.ShloMosaic Idealize.SL.Sem

/-- The two programs' kernel tables are the same. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  rcases l with ⟨_ | n, h⟩
  · rfl
  · exact absurd h (by omega)
set_option smartUnfolding false in
/-- And so are the two programs' tables. -/
theorem defs_eq : Cert.Kernel.defs (F := Bits) = Cert.KernelIdeal.defs (F := Bits) := by
  unfold Cert.Kernel.defs Cert.KernelIdeal.defs
  rw [bodies_eq]
  rfl
/-- The kernel, at the float bits. -/
theorem frame_kernel : Cert.quiescent_Kernel := fun m ρ _ => by
  rw [defs_eq]
  exact (θ_run Cert.KernelIdeal.defs _ _).mono (fun _ h => ⟨fun c => ⟨(h.1 c (0 : Fin 3)).trans (Cert.KernelIdeal.Ring.finalA_x m ρ c),
    (h.1 c (1 : Fin 3)).trans (Cert.KernelIdeal.Ring.finalA_w m ρ c)⟩, h.2⟩) (Cert.KernelIdeal.Ring.run_main (F := Bits) m ρ)

/-- The kernel, over the extended reals. -/
theorem frame_ideal : Cert.quiescent_KernelIdeal := fun m ρ _ =>
  (θ_run Cert.KernelIdeal.defs _ _).mono (fun _ h => ⟨fun c => ⟨(h.1 c (0 : Fin 3)).trans (Cert.KernelIdeal.Ring.finalA_x m ρ c),
    (h.1 c (1 : Fin 3)).trans (Cert.KernelIdeal.Ring.finalA_w m ρ c)⟩, h.2⟩) (Cert.KernelIdeal.Ring.run_main (F := Ideal) m ρ)

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Products.lean ====
/-
# One block's products

What the kernel's vector steps compute, read at an index, over the extended reals.
-/
module

public import proofs.«01_k».proof.Proof.Quant
public import Idealize.ShloMosaic.Lib.Pointwise

@[expose] public section

noncomputable section

namespace Cert.KernelIdeal.Ring

open Cert.KernelIdeal Cert.KernelIdeal.Gen
open Idealize.ShloMosaic Idealize.ShloMosaic.TcCoe

set_option maxRecDepth 16384

variable (m : (ℓ : Loc nD τ sig) → Buf (Elt Ideal) ℓ)

/-- The first partial sum of a chunk is one product of blocks. -/
theorem start0_apply (x : FVec Ideal S512x512 .f32) (w : FVec Ideal S512x256 .f32) (r : Fin 512) (q : Fin 256) :
    start0 (F := Ideal) x w (ix4 0 0 r q) = ∑ k : Fin 512, x (ix2 r k) * w (ix2 k q) := by
  unfold start0
  pointwise [k0_pay3]

/-- A device adds its product of blocks to what arrived. -/
theorem addP_apply (a : FVec Ideal S1x1x512x256 .f32) (x : FVec Ideal S512x512 .f32) (w : FVec Ideal S512x256 .f32) (r : Fin 512)
    (q : Fin 256) :
    addP (F := Ideal) a x w (ix4 0 0 r q) = a (ix4 0 0 r q) + ∑ k : Fin 512, x (ix2 r k) * w (ix2 k q) := by
  unfold addP
  pointwise [k0_pay11]

/-- The last addition, clipped below at zero. -/
theorem lastP_apply (a : FVec Ideal S1x1x512x256 .f32) (x : FVec Ideal S512x512 .f32) (w : FVec Ideal S512x256 .f32) (r : Fin 512)
    (q : Fin 256) :
    lastP (F := Ideal) a x w (ix2 r q) = max (a (ix4 0 0 r q) + ∑ k : Fin 512, x (ix2 r k) * w (ix2 k q)) 0 := by
  unfold lastP
  pointwise [k0_pay87]

/-- The word the reductions start from is the least extended real. -/
theorem least_word : Ideal.ofBits .f32 0xFF800000#32 = ⊥ := by simp [Ideal.ofBits, Ideal.ieee]

/-- What bounds the largest of a finite family, from the least extended real up. -/
theorem fold_le {ι : Type} [Fintype ι] (f : ι → EReal) (z : EReal) : Finset.fold max ⊥ f Finset.univ ≤ z ↔ ∀ i, f i ≤ z :=
  (Finset.fold_max_le z).trans ⟨fun h i => h.2 i (Finset.mem_univ i), fun h => ⟨bot_le, fun i _ => h i⟩⟩

/-- The running largest value is bounded by a number just when it was before and the finished chunk is. -/
theorem maxP_le (l : Ideal .f32) (a : FVec Ideal S1x1x512x256 .f32) (x : FVec Ideal S512x512 .f32) (w : FVec Ideal S512x256 .f32)
    (z : EReal) :
    maxP (F := Ideal) l a x w ≤ z ↔ l ≤ z ∧ ∀ (r : Fin 512) (q : Fin 256), lastP (F := Ideal) a x w (ix2 r q) ≤ z := by
  have e : maxP (F := Ideal) l a x w
      = max l (Finset.fold max (Ideal.ofBits .f32 0xFF800000#32) (fun k : Fin 512 × Fin 256 => k0_pay87 (F := Ideal) a x w (ix2 k.1 k.2)) Finset.univ) := by
    unfold maxP
    pointwise [k0_pay88]
  rw [e, least_word, max_le_iff]
  refine and_congr_right fun _ => (fold_le _ z).trans ⟨fun h r q => h (r, q), fun h k => h k.1 k.2⟩

/-- The step size: the largest value over 127. -/
def stepOf (g : EReal) : EReal := Ideal.div g (Ideal.ofBits .f32 0x42FE0000#32)
/-- A value rounded to a multiple of the step size, at most 127 steps either way. -/
def quant1 (g y : EReal) : EReal :=
  min (Ideal.ofBits .f32 0x42FE0000#32) (max (Ideal.ofBits .f32 0xC2FE0000#32) (Ideal.liftRound Ideal.roundHalfEven (Ideal.div y (stepOf g))))
    * stepOf g

/-- The stored value at an index. -/
theorem quantP_apply (l a0 a1 a2 a3 a4 a5 a6 : Ideal .f32) (y : FVec Ideal S512x2048 .f32) (r : Fin 512) (q : Fin 2048) :
    quantP (F := Ideal) l (fun _ => a0) (fun _ => a1) (fun _ => a2) (fun _ => a3) (fun _ => a4) (fun _ => a5) (fun _ => a6) y (ix2 r q)
      = quant1 (max (max (max (max (max (max (max l a0) a1) a2) a3) a4) a5) a6) (y (ix2 r q)) := by
  unfold quantP quant1 stepOf
  pointwise [k0_pay101, k0_pay100]

/-- A row of a block of rows, in the whole. -/
def gr (b : Fin 8) (r : Fin 512) : Fin 4096 := ⟨512 * b.val + r.val, by omega⟩
theorem gq_lt (dir : Bool) (ch : Fin 4) (q : Fin 256) : col dir ch + q.val < 2048 := by
  cases dir <;> simp only [col] <;> omega
/-- A column of a chunk, in the whole. -/
def gq (dir : Bool) (ch : Fin 4) (q : Fin 256) : Fin 2048 := ⟨col dir ch + q.val, gq_lt dir ch q⟩

/-- A loaded block of rows is those rows of the staged operand. -/
theorem xb_apply (c : Dev nD) (b : Fin 8) (r k : Fin 512) : xb (F := Ideal) m c b (ix2 r k) = xs (F := Ideal) m c (ix2 (gr b r) k) := by
  show xs (F := Ideal) m c ((rowR (offs b) (inb_row b)).emb (ix2 r k)) = _
  refine congrArg (xs (F := Ideal) m c) (funext fun a => Fin.ext ?_)
  rw [ValueKit.rect_emb_unit_val]
  match a with
  | ⟨0, _⟩ => rfl
  | ⟨1, _⟩ => exact Nat.zero_add _

/-- A loaded chunk of columns is those columns of the staged operand. -/
theorem wb_apply (c : Dev nD) (dir : Bool) (ch : Fin 4) (k : Fin 512) (q : Fin 256) :
    wb (F := Ideal) m c dir ch (ix2 k q) = ws (F := Ideal) m c (ix2 k (gq dir ch q)) := by
  show ws (F := Ideal) m c ((colR dir ch).emb (ix2 k q)) = _
  refine congrArg (ws (F := Ideal) m c) (funext fun a => Fin.ext ?_)
  rw [ValueKit.rect_emb_unit_val]
  match a with
  | ⟨0, _⟩ => exact Nat.zero_add _
  | ⟨1, _⟩ => rfl

end Cert.KernelIdeal.Ring

end
-- ==== Proof.Sums.lean ====
/-
# The ring's sums and largest values

A chunk that has gone round the ring holds the whole product's rows, and the eight devices' largest values make up
the whole product's.
-/
module

public import proofs.«01_k».proof.Proof.Products

@[expose] public section

noncomputable section

namespace Cert.KernelIdeal.Ring

open Cert.KernelIdeal Cert.KernelIdeal.Gen
open Idealize.ShloMosaic Idealize.ShloMosaic.TcCoe

variable (m : (ℓ : Loc nD τ sig) → Buf (Elt Ideal) ℓ)
variable (X : FVec Ideal ⟨2, ![4096, 4096]⟩ .f32) (W : FVec Ideal ⟨2, ![4096, 2048]⟩ .f32)

/-- Device `d`'s share of the product at a row and a column of the whole. -/
def part (d : Fin 8) (r : Fin 4096) (q : Fin 2048) : EReal := ∑ k : Fin 512, X (ix2 r (gr d k)) * W (ix2 (gr d k) q)
/-- The whole product, clipped below at zero. -/
def yOf (r : Fin 4096) (q : Fin 2048) : EReal := max (∑ k : Fin 4096, X (ix2 r k) * W (ix2 k q)) 0

/-- The eight shares make up the product. -/
theorem parts_sum (r : Fin 4096) (q : Fin 2048) : ∑ d : Fin 8, part X W d r q = ∑ k : Fin 4096, X (ix2 r k) * W (ix2 k q) := by
  rw [← Equiv.sum_comp (finProdFinEquiv (m := 8) (n := 512)) (fun k : Fin 4096 => X (ix2 r k) * W (ix2 k q)), Fintype.sum_prod_type]
  refine Finset.sum_congr rfl fun d _ => Finset.sum_congr rfl fun k _ => ?_
  have e : finProdFinEquiv (m := 8) (n := 512) (d, k) = gr d k := Fin.ext (Nat.add_comm _ _)
  show _ = X (ix2 r (finProdFinEquiv (m := 8) (n := 512) (d, k))) * W (ix2 (finProdFinEquiv (m := 8) (n := 512) (d, k)) q)
  rw [e]

/-- Going round the ring eight times meets every device once. -/
theorem ring_sum (dir : Bool) (c : Dev nD) (f : Fin 8 → EReal) : ∑ j ∈ Finset.range 8, f ((frm dir)^[j] c) = ∑ d : Fin 8, f d := by
  rw [← Fin.sum_univ_eq_sum_range (fun j => f ((frm dir)^[j] c)) 8]
  have hi : ∀ (dir : Bool) (c : Dev nD), Function.Injective fun j : Fin 8 => ((frm dir)^[j.val] c : Fin 8) := by decide
  exact Function.Bijective.sum_comp (Finite.injective_iff_bijective.mp (hi dir c)) f

/-- The block a device adds is the one its neighbour added a step before. -/
theorem blk_frm (dir : Bool) (s : ℕ) (hs : s < 7) (c : Dev nD) : blk dir s (frm dir c) = blk dir (s + 1) c := by
  cases dir
  · exact Fin.ext (by show ((c.val + 1) % 8 + (s + 1)) % 8 = (c.val + (s + 1 + 1)) % 8; omega)
  · exact Fin.ext (by show ((c.val + 7) % 8 + (7 - s)) % 8 = (c.val + (7 - (s + 1))) % 8; omega)
/-- At the last step it is its own. -/
theorem blk_last (dir : Bool) (c : Dev nD) : blk dir 7 c = c := by revert dir c; decide

/-- A device and the seven after it are all the devices. -/
theorem all_dev (c d : Dev nD) :
    d = c ∨ d = dev c 7 ∨ d = dev c 6 ∨ d = dev c 5 ∨ d = dev c 4 ∨ d = dev c 3 ∨ d = dev c 2 ∨ d = dev c 1 := by
  revert c d; decide

variable {m X W}
variable (hx : ∀ (c : Dev nD) (r : Fin 4096) (k : Fin 512), xs (F := Ideal) m c (ix2 r k) = X (ix2 r (gr c k)))
  (hw : ∀ (c : Dev nD) (k : Fin 512) (q : Fin 2048), ws (F := Ideal) m c (ix2 k q) = W (ix2 (gr c k) q))
include hx hw

/-- A device's product of blocks is its share. -/
theorem dot_part (c : Dev nD) (b : Fin 8) (dir : Bool) (ch : Fin 4) (r : Fin 512) (q : Fin 256) :
    ∑ k : Fin 512, xb (F := Ideal) m c b (ix2 r k) * wb (F := Ideal) m c dir ch (ix2 k q) = part X W c (gr b r) (gq dir ch q) := by
  refine Finset.sum_congr rfl fun k _ => ?_
  rw [xb_apply, wb_apply, hx, hw]

/-- The running sum is the sum of the shares of the devices the chunk has passed. -/
theorem acc_apply (dir : Bool) (ch : Fin 4) (r : Fin 512) (q : Fin 256) (s : ℕ) (hs : s ≤ 7) (c : Dev nD) :
    acc (F := Ideal) m dir ch s c (ix4 0 0 r q)
      = ∑ j ∈ Finset.range (s + 1), part X W ((frm dir)^[j] c) (gr (blk dir s c) r) (gq dir ch q) := by
  induction s generalizing c with
  | zero =>
    rw [Finset.sum_range_one]
    exact (start0_apply _ _ r q).trans (dot_part hx hw c _ dir ch r q)
  | succ s ih =>
    rw [Finset.sum_range_succ' _ (s + 1)]
    refine (addP_apply _ _ _ r q).trans ?_
    rw [ih (by omega) (frm dir c), dot_part hx hw c _ dir ch r q, blk_frm dir s (by omega) c]
    rfl

/-- A finished chunk holds the whole product's rows of the device. -/
theorem fin_apply (dir : Bool) (ch : Fin 4) (r : Fin 512) (q : Fin 256) (c : Dev nD) :
    fin (F := Ideal) m c dir ch (ix2 r q) = yOf X W (gr c r) (gq dir ch q) := by
  refine (lastP_apply _ _ _ r q).trans ?_
  unfold yOf
  rw [acc_apply hx hw dir ch r q 6 (by omega) (frm dir c), dot_part hx hw c _ dir ch r q, blk_frm dir 6 (by omega) c, blk_last,
    ← parts_sum X W, ← ring_sum dir c, Finset.sum_range_succ' _ 7]
  rfl

/-- The device's rows, from its eight chunks. -/
theorem outV_apply (r : Fin 512) (q : Fin 2048) (c : Dev nD) : outV (F := Ideal) m c (ix2 r q) = yOf X W (gr c r) q := by
  obtain ⟨_, _, _, _, hv⟩ := col_split q
  refine (fin_apply hx hw (colDir q) (colCh q) r (colIn q) c).trans ?_
  exact congrArg (yOf X W (gr c r)) (Fin.ext hv.symm)

/-- What bounds the running largest value. -/
theorem lmax_le (c : Dev nD) (z : EReal) (j : ℕ) :
    lmax (F := Ideal) m c j ≤ z
      ↔ 0 ≤ z ∧ ∀ i < j, ∀ (r : Fin 512) (q : Fin 256), yOf X W (gr c r) (gq (dirOf i) (chOf i) q) ≤ z := by
  induction j with
  | zero =>
    have e : lmax (F := Ideal) m c 0 = (0 : EReal) := Ideal.ofBits_zero_f32
    rw [e]
    exact ⟨fun h => ⟨h, fun i hi => absurd hi (Nat.not_lt_zero i)⟩, fun h => h.1⟩
  | succ j ih =>
    refine (maxP_le _ _ _ _ z).trans ?_
    rw [ih, and_assoc]
    refine and_congr_right fun _ => ⟨fun h i hi r q => ?_, fun h => ⟨fun i hi => h i (by omega), fun r q => ?_⟩⟩
    · rcases Nat.lt_succ_iff_lt_or_eq.mp hi with hi | rfl
      · exact h.1 i hi r q
      · rw [← fin_apply hx hw]; exact h.2 r q
    · have := h j (by omega) r q
      rw [← fin_apply hx hw] at this; exact this

/-- What bounds a device's largest value: zero, and every entry of its rows. -/
theorem lm_le (c : Dev nD) (z : EReal) : lm (F := Ideal) m c ≤ z ↔ 0 ≤ z ∧ ∀ (r : Fin 512) (q : Fin 2048), yOf X W (gr c r) q ≤ z := by
  refine (lmax_le hx hw c z 8).trans (and_congr_right fun _ => ⟨fun h r q => ?_, fun h i _ r q => h r _⟩)
  obtain ⟨i, hi, hd, hc, hv⟩ := col_split q
  have := h i hi r (colIn q)
  rw [hd, hc] at this
  rwa [show q = gq (colDir q) (colCh q) (colIn q) from Fin.ext hv]

/-- What bounds the largest value over the devices: every entry of the whole. -/
theorem most_le (c : Dev nD) (z : EReal) :
    max (max (max (max (max (max (max (lm (F := Ideal) m c) (lm m (dev c 7))) (lm m (dev c 6))) (lm m (dev c 5))) (lm m (dev c 4)))
      (lm m (dev c 3))) (lm m (dev c 2))) (lm m (dev c 1)) ≤ z ↔ ∀ (r : Fin 4096) (q : Fin 2048), yOf X W r q ≤ z := by
  simp only [max_le_iff, lm_le hx hw]
  constructor
  · intro h r q
    have hall : ∀ d : Dev nD, ∀ (r : Fin 512) (q : Fin 2048), yOf X W (gr d r) q ≤ z := by
      intro d
      have hd := all_dev c d
      obtain ⟨⟨⟨⟨⟨⟨⟨h0, h7⟩, h6⟩, h5⟩, h4⟩, h3⟩, h2⟩, h1⟩ := h
      rcases hd with rfl | rfl | rfl | rfl | rfl | rfl | rfl | rfl
      · exact h0.2
      · exact h7.2
      · exact h6.2
      · exact h5.2
      · exact h4.2
      · exact h3.2
      · exact h2.2
      · exact h1.2
    have := hall ⟨r.val / 512, by have := r.isLt; show _ < 8; omega⟩ ⟨r.val % 512, Nat.mod_lt _ (by decide)⟩ q
    rwa [show gr ⟨r.val / 512, _⟩ ⟨r.val % 512, _⟩ = r from Fin.ext (Nat.div_add_mod r.val 512)] at this
  · intro h
    have h0 : 0 ≤ z := (le_max_right _ _).trans (h 0 0)
    have hd : ∀ d : Dev nD, 0 ≤ z ∧ ∀ (r : Fin 512) (q : Fin 2048), yOf X W (gr d r) q ≤ z := fun d => ⟨h0, fun r q => h _ q⟩
    exact ⟨⟨⟨⟨⟨⟨⟨hd _, hd _⟩, hd _⟩, hd _⟩, hd _⟩, hd _⟩, hd _⟩, hd _⟩

/-- What a device stores: its rows of the whole product, quantised with any number `g` that is the whole product's least bound. -/
theorem resV_apply (g : EReal) (hg : ∀ z, g ≤ z ↔ ∀ (r : Fin 4096) (q : Fin 2048), yOf X W r q ≤ z) (c : Dev nD) (r : Fin 512)
    (q : Fin 2048) : resV (F := Ideal) m c (ix2 r q) = quant1 g (yOf X W (gr c r) q) := by
  refine (quantP_apply _ _ _ _ _ _ _ _ (outV m c) r q).trans ?_
  rw [outV_apply hx hw, eq_of_forall_ge_iff fun z => (most_le hx hw c z).trans (hg z).symm]

end Cert.KernelIdeal.Ring

end
-- ==== Proof.Equation.lean ====
/-
# The equation

The reference's value at an index, the staged operands as parts of the whole ones, and the two programs' results.
-/
module

public import proofs.«01_k».proof.Defs
public import proofs.«01_k».proof.Proof.Run
public import proofs.«01_k».proof.Proof.Sums
public import proofs.«01_k».proof.Proof.Gen.KernelIdeal
public import proofs.«01_k».proof.Proof.Gen.ReferenceIdeal
public import proofs.«01_k».proof.Proof.Gen.ReferenceIdeal.Run
public import Idealize.ShloMosaic.Lib.Layout
public import Idealize.ShloMosaic.Lib.Pointwise

@[expose] public section

noncomputable section

namespace Cert.Reading

open Cert.ReferenceIdeal Cert.ReferenceIdeal.Gen Idealize.ShloMosaic
open Cert.KernelIdeal.Ring (yOf quant1 stepOf least_word fold_le)

set_option maxRecDepth 16384

variable (X : FVec Ideal S4096x4096 .f32) (W : FVec Ideal S4096x2048 .f32)

/-- The reference's product, clipped below at zero. -/
def refY : FVec Ideal S4096x2048 .f32 :=
  maximumf (Host.dotGeneral dot_S4096x4096_S4096x2048_S4096x2048_1_0_0_1_n_n none X W)
    (broadcastInDim S4096x2048 ![] bcast_S_S4096x2048 (constant S_ .f32 0x00000000#32))
theorem refY_apply (r : Fin 4096) (q : Fin 2048) : refY X W (ix2 r q) = yOf X W r q := by
  unfold refY yOf
  pointwise

/-- Its largest absolute value. -/
def refM : FVec Ideal S_ .f32 :=
  Host.reduce FloatOps.maximumf (Host.absf (refY X W)) (constant S_ .f32 0xFF800000#32) reducesTo_S4096x2048_S_d0_1 h_S_
/-- It is the least number that bounds the clipped product. -/
theorem refM_le (z : EReal) : refM X W ix0 ≤ z ↔ ∀ (r : Fin 4096) (q : Fin 2048), yOf X W r q ≤ z := by
  have e : refM X W ix0 = Finset.fold max (Ideal.ofBits .f32 0xFF800000#32)
      (fun k : Fin 4096 × Fin 2048 => (FloatOps.absf (refY X W (ix2 k.1 k.2)) : Ideal .f32)) Finset.univ := by
    unfold refM
    pointwise
  have ha : ∀ (r : Fin 4096) (q : Fin 2048), (FloatOps.absf (refY X W (ix2 r q)) : Ideal .f32) = yOf X W r q := fun r q => by
    rw [refY_apply]
    have h0 : (0 : EReal) ≤ yOf X W r q := le_max_right _ _
    exact max_eq_left ((EReal.neg_le_neg_iff.mpr h0).trans (neg_zero.le.trans h0))
  have e' : (fun k : Fin 4096 × Fin 2048 => (FloatOps.absf (refY X W (ix2 k.1 k.2)) : Ideal .f32)) = fun k => yOf X W k.1 k.2 :=
    funext fun k => ha k.1 k.2
  rw [e, least_word, e']
  exact (fold_le (fun k : Fin 4096 × Fin 2048 => yOf X W k.1 k.2) z).trans ⟨fun h r q => h (r, q), fun h k => h k.1 k.2⟩

/-- The reference's result. -/
def refOut : FVec Ideal S4096x2048 .f32 :=
  mulf (minimumf (broadcastInDim S4096x2048 ![] bcast_S_S4096x2048 (id (constant S_ .f32 0x42FE0000#32)))
      (maximumf (broadcastInDim S4096x2048 ![] bcast_S_S4096x2048 (id (constant S_ .f32 0xC2FE0000#32)))
        (Host.roundeven (Host.divf (refY X W)
          (broadcastInDim S4096x2048 ![] bcast_S_S4096x2048 (Host.divf (refM X W) (constant S_ .f32 0x42FE0000#32)))))))
    (broadcastInDim S4096x2048 ![] bcast_S_S4096x2048 (Host.divf (refM X W) (constant S_ .f32 0x42FE0000#32)))
/-- It is the clipped product, quantised with its largest value. -/
theorem refOut_apply (r : Fin 4096) (q : Fin 2048) : refOut X W (ix2 r q) = quant1 (refM X W ix0) (yOf X W r q) := by
  rw [← refY_apply]
  unfold refOut quant1 stepOf
  simp only [id]
  pointwise

end Cert.Reading

namespace Cert.KernelIdeal.Ring

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- An operand's one block is the operand. -/
theorem xs_eq (c : Dev nD) : xs (F := Ideal) m c = m ((c : Thread nD τ).loc main_arg0) :=
  Memref.read_access_unit_zero (Elt Ideal) main_arg0 (off := fun a => (win0_0.index (0 : Fin 1)) a * main_arg0.ty.shape.size a)
    (funext fun a => by fin_cases a <;> decide) (fun a => by fin_cases a <;> decide) _
theorem ws_eq (c : Dev nD) : ws (F := Ideal) m c = m ((c : Thread nD τ).loc main_arg1) :=
  Memref.read_access_unit_zero (Elt Ideal) main_arg1 (off := fun a => (win0_1.index (0 : Fin 1)) a * main_arg1.ty.shape.size a)
    (funext fun a => by fin_cases a <;> decide) (fun a => by fin_cases a <;> decide) _

/-- The result array ends at the stored value. -/
theorem finalA_o (c : Dev nD) : finalA (F := Ideal) m ρ c (2 : Fin 3) = resV m c := by
  have h : (win0_2.blk (0 : Fin 1)).view.read (Elt Ideal) (finalA (F := Ideal) m ρ c (2 : Fin 3)) = resV m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  refine Eq.trans (Eq.symm ?_) h
  exact Memref.read_access_unit_zero (Elt Ideal) main_v1 (off := fun a => (win0_2.index (0 : Fin 1)) a * main_v1.ty.shape.size a)
    (funext fun a => by fin_cases a <;> decide) (fun a => by fin_cases a <;> decide) _

variable {m}
variable {X : FVec Ideal ⟨2, ![4096, 4096]⟩ .f32} {W : FVec Ideal ⟨2, ![4096, 2048]⟩ .f32}
  (hX : ∀ c : Dev nD, m ((c : Thread nD τ).loc main_arg0) = Layout.block ⟨2, ![4096, 512]⟩ ⟨2, ![4096, 4096]⟩ 1 8 c X)
  (hW : ∀ c : Dev nD, m ((c : Thread nD τ).loc main_arg1) = Layout.block ⟨2, ![512, 2048]⟩ ⟨2, ![4096, 2048]⟩ 0 8 c W)
include hX hW

/-- What a device stores is its block of the reference's result. -/
theorem resV_block (c : Dev nD) :
    resV (F := Ideal) m c = Layout.block ⟨2, ![512, 2048]⟩ ⟨2, ![4096, 2048]⟩ 0 8 c (Cert.Reading.refOut X W) := by
  have hx : ∀ (c : Dev nD) (r : Fin 4096) (k : Fin 512), xs (F := Ideal) m c (ix2 r k) = X (ix2 r (gr c k)) := fun c r k => by
    rw [xs_eq, hX c]
    refine congrArg X (funext fun a => Fin.ext ?_)
    match a with
    | ⟨0, _⟩ => rfl
    | ⟨1, _⟩ => exact congrArg (· + k.val) (Nat.mul_comm c.val 512)
  have hw : ∀ (c : Dev nD) (k : Fin 512) (q : Fin 2048), ws (F := Ideal) m c (ix2 k q) = W (ix2 (gr c k) q) := fun c k q => by
    rw [ws_eq, hW c]
    refine congrArg W (funext fun a => Fin.ext ?_)
    match a with
    | ⟨0, _⟩ => exact congrArg (· + k.val) (Nat.mul_comm c.val 512)
    | ⟨1, _⟩ => rfl
  funext i
  obtain ⟨r, q, rfl⟩ : ∃ (r : Fin 512) (q : Fin 2048), i = ix2 r q := ⟨i 0, i 1, eq_ix2 i⟩
  rw [resV_apply hx hw _ (Cert.Reading.refM_le X W) c r q, ← Cert.Reading.refOut_apply]
  refine congrArg (Cert.Reading.refOut X W) (funext fun a => Fin.ext ?_)
  match a with
  | ⟨0, _⟩ => exact congrArg (· + r.val) (Nat.mul_comm 512 c.val)
  | ⟨1, _⟩ => rfl

end Cert.KernelIdeal.Ring

namespace Cert.Proof

open Idealize.ShloMosaic Idealize.SL.Sem

/-- Over the extended reals the kernel's result is, block by block, the reference's. -/
theorem algebraic : Cert.algebraic_KernelIdeal_ReferenceIdeal := by
  intro m ρ m' ρ' _ hagree
  refine ⟨Cert.Reading.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono (fun _ h c =>
      ⟨(h.1 c (2 : Fin 3)).trans ((Cert.KernelIdeal.Ring.finalA_o m ρ c).trans
          (Cert.KernelIdeal.Ring.resV_block (fun c => (hagree c).1) (fun c => (hagree c).2) c)),
        (h.1 c (0 : Fin 3)).trans (Cert.KernelIdeal.Ring.finalA_x m ρ c), (h.1 c (1 : Fin 3)).trans (Cert.KernelIdeal.Ring.finalA_w m ρ c)⟩)
      (Cert.KernelIdeal.Ring.run_main (F := Ideal) m ρ)
  · exact (θ_run Cert.ReferenceIdeal.defs _ _).mono (fun _ h => h 0) (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Frames
public import proofs.«01_k».proof.Proof.Equation
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
